-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![1024, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨2, ![512, 2048]⟩ ⟨2, ![1024, 2048]⟩ (Layout.meshBlock [2, 4, 4] ![[0], []] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![256, 2048]⟩ ⟨2, ![512, 2048]⟩ (Layout.meshBlock [2, 4, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x512 : Shape := ⟨2, ![512, 512]⟩
abbrev S512x2048 : Shape := ⟨2, ![512, 2048]⟩
abbrev S256x2048 : Shape := ⟨2, ![256, 2048]⟩
abbrev S512x128 : Shape := ⟨2, ![512, 128]⟩
abbrev S128x2048 : Shape := ⟨2, ![128, 2048]⟩
abbrev S9 : Shape := ⟨1, ![9]⟩
abbrev S_ : Shape := ⟨0, ![]⟩
abbrev S128x128 : Shape := ⟨2, ![128, 128]⟩
abbrev S1 : Shape := ⟨1, ![1]⟩
abbrev S512x256 : Shape := ⟨2, ![512, 256]⟩
abbrev S128x256 : Shape := ⟨2, ![128, 256]⟩

abbrev nBuf : Space → Nat
  | .hbm => 3
  | .vmem => 10
  | .smem => 0
  | _ => 0

abbrev bufTy : (tb : Table) → Fin (tcTables nBuf tb) → BufTy
  | .hbm, ⟨0, _⟩ => ⟨S512x512, .f32⟩
  | .hbm, ⟨1, _⟩ => ⟨S512x2048, .f32⟩
  | .hbm, ⟨2, _⟩ => ⟨S256x2048, .f32⟩
  | .local _ .vmem, ⟨0, _⟩ => ⟨S512x512, .f32⟩
  | .local _ .vmem, ⟨1, _⟩ => ⟨S512x2048, .f32⟩
  | .local _ .vmem, ⟨2, _⟩ => ⟨S256x2048, .f32⟩
  | .local _ .vmem, ⟨3, _⟩ => ⟨S512x128, .bf16⟩
  | .local _ .vmem, ⟨4, _⟩ => ⟨S512x128, .bf16⟩
  | .local _ .vmem, ⟨5, _⟩ => ⟨S512x2048, .bf16⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_7 : BitVec 32 := 16#32
  let v15 : BitVec 32 := Scalar.muli v10 c16_i32_7
  let v16 : BitVec 32 := Scalar.addi c0_i32 v15
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_8 : BitVec 32 := 4#32
  let v17 : BitVec 32 := Scalar.muli v5 c4_i32_8
  let v18 : BitVec 32 := Scalar.addi v16 v17
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_9 : BitVec 32 := 1#32
  let v19 : BitVec 32 := Scalar.muli v8 c1_i32_9
  let v20 : BitVec 32 := Scalar.addi v18 v19
  v20.toNat
def k0_dev2 (d0 : Dev nD) : Nat :=
  let c0_i32_12 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_11 : BitVec 32 := 16#32
  let v21 : BitVec 32 := Scalar.muli v2 c16_i32_11
  let v22 : BitVec 32 := Scalar.addi c0_i32_12 v21
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_13 : BitVec 32 := 4#32
  let v23 : BitVec 32 := Scalar.muli v5 c4_i32_13
  let v24 : BitVec 32 := Scalar.addi v22 v23
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_14 : BitVec 32 := 1#32
  let v25 : BitVec 32 := Scalar.muli v13 c1_i32_14
  let v26 : BitVec 32 := Scalar.addi v24 v25
  v26.toNat
def k0_dev3 (d0 : Dev nD) : Nat :=
  let c0_i32_40 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_39 : BitVec 32 := 16#32
  let v60 : BitVec 32 := Scalar.muli v10 c16_i32_39
  let v61 : BitVec 32 := Scalar.addi c0_i32_40 v60
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_41 : BitVec 32 := 4#32
  let v62 : BitVec 32 := Scalar.muli v5 c4_i32_41
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_42 : BitVec 32 := 1#32
  let v64 : BitVec 32 := Scalar.muli v8 c1_i32_42
  let v65 : BitVec 32 := Scalar.addi v63 v64
  v65.toNat
def k0_off1 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32 : BitVec 32 := 128#32
  let v75 : BitVec 32 := Scalar.muli v9 c128_i32
  let v76 : Index := Scalar.indexCast v75
  let c0_52 : Index := 0#32
  ![v76.toNat, 0]
def k0_dev4 (d0 : Dev nD) : Nat :=
  let c0_i32_62 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_61 : BitVec 32 := 16#32
  let v85 : BitVec 32 := Scalar.muli v10 c16_i32_61
  let v86 : BitVec 32 := Scalar.addi c0_i32_62 v85
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_63 : BitVec 32 := 4#32
  let v87 : BitVec 32 := Scalar.muli v5 c4_i32_63
  let v88 : BitVec 32 := Scalar.addi v86 v87
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v89 : BitVec 32 := Scalar.muli v8 c1_i32_64
  let v90 : BitVec 32 := Scalar.addi v88 v89
  v90.toNat
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_74 : BitVec 32 := 128#32
  let v100 : BitVec 32 := Scalar.muli v9 c128_i32_74
  let v101 : Index := Scalar.indexCast v100
  let c128_75 : Index := 128#32
  ![v101.toNat, 128]
def k0_dev5 (d0 : Dev nD) : Nat :=
  let c0_i32_85 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_84 : BitVec 32 := 16#32
  let v110 : BitVec 32 := Scalar.muli v10 c16_i32_84
  let v111 : BitVec 32 := Scalar.addi c0_i32_85 v110
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_86 : BitVec 32 := 4#32
  let v112 : BitVec 32 := Scalar.muli v5 c4_i32_86
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_87 : BitVec 32 := 1#32
  let v114 : BitVec 32 := Scalar.muli v8 c1_i32_87
  let v115 : BitVec 32 := Scalar.addi v113 v114
  v115.toNat
def k0_off3 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_96 : BitVec 32 := 128#32
  let v125 : BitVec 32 := Scalar.muli v9 c128_i32_96
  let v126 : Index := Scalar.indexCast v125
  let c384_97 : Index := 384#32
  ![v126.toNat, 384]
def k0_dev6 (d0 : Dev nD) : Nat :=
  let c0_i32_106 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_105 : BitVec 32 := 16#32
  let v135 : BitVec 32 := Scalar.muli v10 c16_i32_105
  let v136 : BitVec 32 := Scalar.addi c0_i32_106 v135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_107 : BitVec 32 := 4#32
  let v137 : BitVec 32 := Scalar.muli v5 c4_i32_107
  let v138 : BitVec 32 := Scalar.addi v136 v137
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_108 : BitVec 32 := 1#32
  let v139 : BitVec 32 := Scalar.muli v8 c1_i32_108
  let v140 : BitVec 32 := Scalar.addi v138 v139
  v140.toNat
def k0_off4 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_117 : BitVec 32 := 128#32
  let v150 : BitVec 32 := Scalar.muli v9 c128_i32_117
  let v151 : Index := Scalar.indexCast v150
  let c640_118 : Index := 640#32
  ![v151.toNat, 640]
def k0_dev7 (d0 : Dev nD) : Nat :=
  let c0_i32_128 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_127 : BitVec 32 := 16#32
  let v160 : BitVec 32 := Scalar.muli v10 c16_i32_127
  let v161 : BitVec 32 := Scalar.addi c0_i32_128 v160
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_129 : BitVec 32 := 4#32
  let v162 : BitVec 32 := Scalar.muli v5 c4_i32_129
  let v163 : BitVec 32 := Scalar.addi v161 v162
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_130 : BitVec 32 := 1#32
  let v164 : BitVec 32 := Scalar.muli v8 c1_i32_130
  let v165 : BitVec 32 := Scalar.addi v163 v164
  v165.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_139 : BitVec 32 := 128#32
  let v175 : BitVec 32 := Scalar.muli v9 c128_i32_139
  let v176 : Index := Scalar.indexCast v175
  let c896_140 : Index := 896#32
  ![v176.toNat, 896]
def k0_dev8 (d0 : Dev nD) : Nat :=
  let c0_i32_149 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_148 : BitVec 32 := 16#32
  let v185 : BitVec 32 := Scalar.muli v10 c16_i32_148
  let v186 : BitVec 32 := Scalar.addi c0_i32_149 v185
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_150 : BitVec 32 := 4#32
  let v187 : BitVec 32 := Scalar.muli v5 c4_i32_150
  let v188 : BitVec 32 := Scalar.addi v186 v187
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v189 : BitVec 32 := Scalar.muli v8 c1_i32_151
  let v190 : BitVec 32 := Scalar.addi v188 v189
  v190.toNat
def k0_off6 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_160 : BitVec 32 := 128#32
  let v200 : BitVec 32 := Scalar.muli v9 c128_i32_160
  let v201 : Index := Scalar.indexCast v200
  let c1152_161 : Index := 1152#32
  ![v201.toNat, 1152]
def k0_dev9 (d0 : Dev nD) : Nat :=
  let c0_i32_170 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_169 : BitVec 32 := 16#32
  let v210 : BitVec 32 := Scalar.muli v10 c16_i32_169
  let v211 : BitVec 32 := Scalar.addi c0_i32_170 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_171 : BitVec 32 := 4#32
  let v212 : BitVec 32 := Scalar.muli v5 c4_i32_171
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_172 : BitVec 32 := 1#32
  let v214 : BitVec 32 := Scalar.muli v8 c1_i32_172
  let v215 : BitVec 32 := Scalar.addi v213 v214
  v215.toNat
def k0_off7 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_181 : BitVec 32 := 128#32
  let v225 : BitVec 32 := Scalar.muli v9 c128_i32_181
  let v226 : Index := Scalar.indexCast v225
  let c1408_182 : Index := 1408#32
  ![v226.toNat, 1408]
def k0_dev10 (d0 : Dev nD) : Nat :=
  let c0_i32_191 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_190 : BitVec 32 := 16#32
  let v235 : BitVec 32 := Scalar.muli v10 c16_i32_190
  let v236 : BitVec 32 := Scalar.addi c0_i32_191 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_192 : BitVec 32 := 4#32
  let v237 : BitVec 32 := Scalar.muli v5 c4_i32_192
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_193 : BitVec 32 := 1#32
  let v239 : BitVec 32 := Scalar.muli v8 c1_i32_193
  let v240 : BitVec 32 := Scalar.addi v238 v239
  v240.toNat
def k0_off8 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_202 : BitVec 32 := 128#32
  let v250 : BitVec 32 := Scalar.muli v9 c128_i32_202
  let v251 : Index := Scalar.indexCast v250
  let c1664_203 : Index := 1664#32
  ![v251.toNat, 1664]
def k0_dev11 (d0 : Dev nD) : Nat :=
  let c0_i32_212 : BitVec 32 := 0#32
  let c1_i32_3 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v10 : BitVec 32 := Scalar.subi c1_i32_3 v2
  let c16_i32_211 : BitVec 32 := 16#32
  let v260 : BitVec 32 := Scalar.muli v10 c16_i32_211
  let v261 : BitVec 32 := Scalar.addi c0_i32_212 v260
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_213 : BitVec 32 := 4#32
  let v262 : BitVec 32 := Scalar.muli v5 c4_i32_213
  let v263 : BitVec 32 := Scalar.addi v261 v262
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_214 : BitVec 32 := 1#32
  let v264 : BitVec 32 := Scalar.muli v8 c1_i32_214
  let v265 : BitVec 32 := Scalar.addi v263 v264
  v265.toNat
def k0_off9 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let c128_i32_223 : BitVec 32 := 128#32
  let v275 : BitVec 32 := Scalar.muli v9 c128_i32_223
  let v276 : Index := Scalar.indexCast v275
  let c1920_224 : Index := 1920#32
  ![v276.toNat, 1920]
def k0_dev12 (d0 : Dev nD) : Nat :=
  let c0_i32_246 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_245 : BitVec 32 := 16#32
  let v302 : BitVec 32 := Scalar.muli v2 c16_i32_245
  let v303 : BitVec 32 := Scalar.addi c0_i32_246 v302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_247 : BitVec 32 := 4#32
  let v304 : BitVec 32 := Scalar.muli v5 c4_i32_247
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_248 : BitVec 32 := 1#32
  let v306 : BitVec 32 := Scalar.muli v13 c1_i32_248
  let v307 : BitVec 32 := Scalar.addi v305 v306
  v307.toNat
def k0_dev13 (d0 : Dev nD) : Nat :=
  let c0_i32_274 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_273 : BitVec 32 := 16#32
  let v338 : BitVec 32 := Scalar.muli v2 c16_i32_273
  let v339 : BitVec 32 := Scalar.addi c0_i32_274 v338
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_275 : BitVec 32 := 4#32
  let v340 : BitVec 32 := Scalar.muli v5 c4_i32_275
  let v341 : BitVec 32 := Scalar.addi v339 v340
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_276 : BitVec 32 := 1#32
  let v342 : BitVec 32 := Scalar.muli v13 c1_i32_276
  let v343 : BitVec 32 := Scalar.addi v341 v342
  v343.toNat
def k0_dev14 (d0 : Dev nD) : Nat :=
  let c0_i32_302 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_301 : BitVec 32 := 16#32
  let v374 : BitVec 32 := Scalar.muli v2 c16_i32_301
  let v375 : BitVec 32 := Scalar.addi c0_i32_302 v374
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_303 : BitVec 32 := 4#32
  let v376 : BitVec 32 := Scalar.muli v5 c4_i32_303
  let v377 : BitVec 32 := Scalar.addi v375 v376
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_304 : BitVec 32 := 1#32
  let v378 : BitVec 32 := Scalar.muli v13 c1_i32_304
  let v379 : BitVec 32 := Scalar.addi v377 v378
  v379.toNat
def k0_dev15 (d0 : Dev nD) : Nat :=
  let c0_i32_330 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_329 : BitVec 32 := 16#32
  let v410 : BitVec 32 := Scalar.muli v2 c16_i32_329
  let v411 : BitVec 32 := Scalar.addi c0_i32_330 v410
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_331 : BitVec 32 := 4#32
  let v412 : BitVec 32 := Scalar.muli v5 c4_i32_331
  let v413 : BitVec 32 := Scalar.addi v411 v412
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_332 : BitVec 32 := 1#32
  let v414 : BitVec 32 := Scalar.muli v13 c1_i32_332
  let v415 : BitVec 32 := Scalar.addi v413 v414
  v415.toNat
def k0_dev16 (d0 : Dev nD) : Nat :=
  let c0_i32_358 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_357 : BitVec 32 := 16#32
  let v446 : BitVec 32 := Scalar.muli v2 c16_i32_357
  let v447 : BitVec 32 := Scalar.addi c0_i32_358 v446
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_359 : BitVec 32 := 4#32
  let v448 : BitVec 32 := Scalar.muli v5 c4_i32_359
  let v449 : BitVec 32 := Scalar.addi v447 v448
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_360 : BitVec 32 := 1#32
  let v450 : BitVec 32 := Scalar.muli v13 c1_i32_360
  let v451 : BitVec 32 := Scalar.addi v449 v450
  v451.toNat
def k0_dev17 (d0 : Dev nD) : Nat :=
  let c0_i32_386 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_385 : BitVec 32 := 16#32
  let v482 : BitVec 32 := Scalar.muli v2 c16_i32_385
  let v483 : BitVec 32 := Scalar.addi c0_i32_386 v482
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_387 : BitVec 32 := 4#32
  let v484 : BitVec 32 := Scalar.muli v5 c4_i32_387
  let v485 : BitVec 32 := Scalar.addi v483 v484
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_388 : BitVec 32 := 1#32
  let v486 : BitVec 32 := Scalar.muli v13 c1_i32_388
  let v487 : BitVec 32 := Scalar.addi v485 v486
  v487.toNat
def k0_dev18 (d0 : Dev nD) : Nat :=
  let c0_i32_414 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_413 : BitVec 32 := 16#32
  let v518 : BitVec 32 := Scalar.muli v2 c16_i32_413
  let v519 : BitVec 32 := Scalar.addi c0_i32_414 v518
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_415 : BitVec 32 := 4#32
  let v520 : BitVec 32 := Scalar.muli v5 c4_i32_415
  let v521 : BitVec 32 := Scalar.addi v519 v520
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_416 : BitVec 32 := 1#32
  let v522 : BitVec 32 := Scalar.muli v13 c1_i32_416
  let v523 : BitVec 32 := Scalar.addi v521 v522
  v523.toNat
def k0_dev19 (d0 : Dev nD) : Nat :=
  let c0_i32_442 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_441 : BitVec 32 := 16#32
  let v554 : BitVec 32 := Scalar.muli v2 c16_i32_441
  let v555 : BitVec 32 := Scalar.addi c0_i32_442 v554
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_443 : BitVec 32 := 4#32
  let v556 : BitVec 32 := Scalar.muli v5 c4_i32_443
  let v557 : BitVec 32 := Scalar.addi v555 v556
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_444 : BitVec 32 := 1#32
  let v558 : BitVec 32 := Scalar.muli v13 c1_i32_444
  let v559 : BitVec 32 := Scalar.addi v557 v558
  v559.toNat
def k0_dev20 (d0 : Dev nD) : Nat :=
  let c0_i32_470 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_469 : BitVec 32 := 16#32
  let v590 : BitVec 32 := Scalar.muli v2 c16_i32_469
  let v591 : BitVec 32 := Scalar.addi c0_i32_470 v590
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_471 : BitVec 32 := 4#32
  let v592 : BitVec 32 := Scalar.muli v5 c4_i32_471
  let v593 : BitVec 32 := Scalar.addi v591 v592
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c2_i32_5 : BitVec 32 := 2#32
  let c2_i32_2 : BitVec 32 := 2#32
  let v9 : BitVec 32 := Scalar.remsi v8 c2_i32_2
  let v12 : BitVec 32 := Scalar.muli c2_i32_5 v9
  let v13 : BitVec 32 := Scalar.subi v11 v12
  let c1_i32_472 : BitVec 32 := 1#32
  let v594 : BitVec 32 := Scalar.muli v13 c1_i32_472
  let v595 : BitVec 32 := Scalar.addi v593 v594
  v595.toNat
def k0_off10 (d0 : Dev nD) : Fin 2 → Nat :=
  let c1_i32_489 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v614 : BitVec 32 := Scalar.subi c1_i32_489 v9
  let c128_i32_490 : BitVec 32 := 128#32
  let v615 : BitVec 32 := Scalar.muli v614 c128_i32_490
  let v616 : Index := Scalar.indexCast v615
  let c0_491 : Index := 0#32
  ![v616.toNat, 0]
def k0_off11 (d0 : Dev nD) : Fin 2 → Nat :=
  let c1_i32_504 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v630 : BitVec 32 := Scalar.subi c1_i32_504 v9
  let c128_i32_505 : BitVec 32 := 128#32
  let v631 : BitVec 32 := Scalar.muli v630 c128_i32_505
  let v632 : Index := Scalar.indexCast v631
  let c128_506 : Index := 128#32
  ![v632.toNat, 128]
def k0_off12 (d0 : Dev nD) : Fin 2 → Nat :=
  let c1_i32_519 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v646 : BitVec 32 := Scalar.subi c1_i32_519 v9
  let c128_i32_520 : BitVec 32 := 128#32
  let v647 : BitVec 32 := Scalar.muli v646 c128_i32_520
  let v648 : Index := Scalar.indexCast v647
  let c384_521 : Index := 384#32
  ![v648.toNat, 384]
def k0_off13 (d0 : Dev nD) : Fin 2 → Nat :=
  let c1_i32_534 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v662 : BitVec 32 := Scalar.subi c1_i32_534 v9
  let c128_i32_535 : BitVec 32 := 128#32
  let v663 : BitVec 32 := Scalar.muli v662 c128_i32_535
  let v664 : Index := Scalar.indexCast v663
  let c640_536 : Index := 640#32
  ![v664.toNat, 640]
def k0_off14 (d0 : Dev nD) : Fin 2 → Nat :=
  let c1_i32_549 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v678 : BitVec 32 := Scalar.subi c1_i32_549 v9
  let c128_i32_550 : BitVec 32 := 128#32
  let v679 : BitVec 32 := Scalar.muli v678 c128_i32_550
  let v680 : Index := Scalar.indexCast v679
  let c896_551 : Index := 896#32
  ![v680.toNat, 896]
def k0_off15 (d0 : Dev nD) : Fin 2 → Nat :=
  let c1_i32_564 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v694 : BitVec 32 := Scalar.subi c1_i32_564 v9
  let c128_i32_565 : BitVec 32 := 128#32
  let v695 : BitVec 32 := Scalar.muli v694 c128_i32_565
  let v696 : Index := Scalar.indexCast v695
  let c1152_566 : Index := 1152#32
  ![v696.toNat, 1152]
def k0_off16 (d0 : Dev nD) : Fin 2 → Nat :=
  let c1_i32_579 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v710 : BitVec 32 := Scalar.subi c1_i32_579 v9
  let c128_i32_580 : BitVec 32 := 128#32
  let v711 : BitVec 32 := Scalar.muli v710 c128_i32_580
  let v712 : Index := Scalar.indexCast v711
  let c1408_581 : Index := 1408#32
  ![v712.toNat, 1408]
def k0_off17 (d0 : Dev nD) : Fin 2 → Nat :=
  let c1_i32_594 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v726 : BitVec 32 := Scalar.subi c1_i32_594 v9
  let c128_i32_595 : BitVec 32 := 128#32
  let v727 : BitVec 32 := Scalar.muli v726 c128_i32_595
  let v728 : Index := Scalar.indexCast v727
  let c1664_596 : Index := 1664#32
  ![v728.toNat, 1664]
def k0_off18 (d0 : Dev nD) : Fin 2 → Nat :=
  let c1_i32_609 : BitVec 32 := 1#32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2_i32_2 : BitVec 32 := 2#32
  let v9 : BitVec 32 := Scalar.remsi v8 c2_i32_2
  let v742 : BitVec 32 := Scalar.subi c1_i32_609 v9
  let c128_i32_610 : BitVec 32 := 128#32
  let v743 : BitVec 32 := Scalar.muli v742 c128_i32_610
  let v744 : Index := Scalar.indexCast v743
  let c1920_611 : Index := 1920#32
  ![v744.toNat, 1920]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x512 : Shape := ⟨2, ![1024, 512]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 4
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x2048, .f32⟩
  | .hbm, ⟨2, _⟩ => ⟨S512x1024, .f32⟩
  | .hbm, ⟨3, _⟩ => ⟨S512x2048, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Program.lean ====
module

public import proofs.«01_k».proof.Proof.Gen.KernelIdeal.Skeleton
public import proofs.«01_k».proof.Proof.Gen.KernelIdeal.Frame

@[expose] public section

/-! # The kernel's body as a loop over the nine column chunks

The printed body is a straight run of statements in which the same five steps recur for each of the
nine column chunks of the gradient block. Here each step is written once, for chunk `i`. The module `Printed` shows that
the printed body is these steps run in order. -/

noncomputable section

namespace Cert.Gradient

open Idealize.ShloMosaic Idealize.ShloMosaic.TcCoe
open Idealize.SL.Sem
open Cert.KernelIdeal Cert.KernelIdeal.Gen

variable {F : FTy → Type} [FloatOps F]

/-! ## Chunks -/

/-- Chunk `i`'s number of columns. -/
abbrev width (i : Fin 9) : ℕ := if i.val % 8 = 0 then 128 else 256
/-- Chunk `i`'s first column. -/
abbrev first (i : Fin 9) : ℕ := 256 * i.val - 128

/-- A half block's chunk, and a `dy` block's. -/
abbrev SH (i : Fin 9) : Shape := ⟨2, ![128, width i]⟩
abbrev SD (i : Fin 9) : Shape := ⟨2, ![512, width i]⟩

theorem inbH : ∀ i : Fin 9, ∀ a, (![0, first i] : Fin 2 → ℕ) a + (SH i).size a ≤ S128x2048.size a := by decide
theorem inbD : ∀ i : Fin 9, ∀ a, (![0, first i] : Fin 2 → ℕ) a + (SD i).size a ≤ S512x2048.size a := by decide
theorem posH : ∀ i : Fin 9, 0 < (SH i).numel := by decide
theorem posD : ∀ i : Fin 9, 0 < (SD i).numel := by decide
theorem castH : ∀ i : Fin 9, (SH i).ShapeCasts (SH i) := by decide

/-- Chunk `i`'s columns of a half block, and of the whole `dy` block. -/
abbrev rH (i : Fin 9) : Rect S128x2048 := Rect.unit (s := S128x2048) ![0, first i] (SH i).size (inbH i)
abbrev rD (i : Fin 9) : Rect S512x2048 := Rect.unit (s := S512x2048) ![0, first i] (SD i).size (inbD i)

theorem packedH : ∀ i : Fin 9, (rH i).PackedRows (EltTy.packing .bf16) := by decide
theorem wordsH : ∀ i : Fin 9, (rH i).WholeWords (EltTy.packing .bf16) := by decide

/-- Chunk `i` of the result rows a device sums itself (rows `128·h …`), and of the other rows. -/
abbrev offOwn (d : Dev nD) (i : Fin 9) : Fin 2 → ℕ := ![k0_off1 d 0, first i]
abbrev offOther (d : Dev nD) (i : Fin 9) : Fin 2 → ℕ := ![k0_off10 d 0, first i]

theorem inbOwn : ∀ (d : Dev nD) (i : Fin 9) (a : Fin 2), offOwn d i a + (SH i).size a ≤ S256x2048.size a := by decide +kernel
theorem inbOther : ∀ (d : Dev nD) (i : Fin 9) (a : Fin 2), offOther d i a + (SH i).size a ≤ S256x2048.size a := by decide +kernel

abbrev rOwn (d : Dev nD) (i : Fin 9) : Rect S256x2048 := Rect.unit (s := S256x2048) (offOwn d i) (SH i).size (inbOwn d i)
abbrev rOther (d : Dev nD) (i : Fin 9) : Rect S256x2048 := Rect.unit (s := S256x2048) (offOther d i) (SH i).size (inbOther d i)

theorem dotWF : ∀ i : Fin 9, DotDims.WF S512x128 (SD i) (SH i) [0] [0] [1] [1] [] [] := by decide

/-! ## Buffers and semaphores -/

abbrev xM : Memref sig .tc .vmem S512x512 .f32 := Memref.whole cc0_stg0_0
abbrev dyM : Memref sig .tc .vmem S512x2048 .f32 := Memref.whole cc0_stg1_0
abbrev outM : Memref sig .tc .vmem S256x2048 .f32 := Memref.whole cc0_stg2_0
/-- The columns of `x` for the partner's rows, and for the device's own rows, and `dy`, in bf16. -/
abbrev xsM : Memref sig .tc .vmem S512x128 .bf16 := Memref.whole cc0_scratch0
abbrev xmM : Memref sig .tc .vmem S512x128 .bf16 := Memref.whole cc0_scratch1
abbrev dybM : Memref sig .tc .vmem S512x2048 .bf16 := Memref.whole cc0_scratch2
/-- The first exchange's source and landing buffers, and the second's. -/
abbrev sendM : Memref sig .tc .vmem S128x2048 .bf16 := Memref.whole cc0_scratch3
abbrev landM : Memref sig .tc .vmem S128x2048 .bf16 := Memref.whole cc0_scratch4
abbrev sumM : Memref sig .tc .vmem S128x2048 .bf16 := Memref.whole cc0_scratch5
abbrev otherM : Memref sig .tc .vmem S128x2048 .bf16 := Memref.whole cc0_scratch6

/-- Chunk `i` of a half-block buffer. -/
abbrev chunk (M : Memref sig .tc .vmem S128x2048 .bf16) (i : Fin 9) : Memref sig .tc .vmem (SH i) .bf16 :=
  M.slice (rH i) (fun _ => rfl)

theorem inbS : ∀ i : Fin 9, ∀ a, (![i.val] : Fin 1 → ℕ) a + S1.size a ≤ S9.size a := by decide

/-- Entry `i` of an array of nine semaphores. -/
abbrev semAt (S : DmaSems sig S9) (i : Fin 9) : DmaSem sig :=
  ((S.slice (Rect.unit (s := S9) ![i.val] S1.size (inbS i))).squeeze S_ squeezes_S1_S_).sem

abbrev barS : Sem sig := (SemArray.scalar (sig.barrier 0 rfl) : Sems sig S_).sem

/-! ## What each step stores -/

/-- A block in bf16. -/
def toHalf {s : Shape} (hc : s.ShapeCasts s) (v : FVec F s .f32) : FVec F s .bf16 :=
  shapeCast s (truncf .bf16 (shapeCast s v hc) bitsLt_bf16_f32) hc

/-- The transpose of 128 columns of `x` times a chunk of `dy`. -/
def prod (i : Fin 9) (v : FVec F S512x128 .bf16) (w : FVec F (SD i) .bf16) : FVec F (SH i) .f32 :=
  matmul (DotDims.mk (sl := S512x128) (sr := SD i) (so := SH i) [0] [0] [1] [1] [] [] (dotWF i)) none v w
    (constant (SH i) .f32 0x00000000#32)

def prodHalf (i : Fin 9) (v : FVec F S512x128 .bf16) (w : FVec F (SD i) .bf16) : FVec F (SH i) .bf16 :=
  shapeCast (SH i) (truncf .bf16 (prod i v w) bitsLt_bf16_f32) (castH i)

/-- The device's own product plus the partner's. -/
def total (i : Fin 9) (v : FVec F (SH i) .f32) (w : FVec F (SH i) .bf16) : FVec F (SH i) .f32 :=
  addf (shapeCast (SH i) v (castH i)) (extf .f32 w bitsLt_bf16_f32)

def totalHalf (i : Fin 9) (v : FVec F (SH i) .f32) : FVec F (SH i) .bf16 :=
  shapeCast (SH i) (truncf .bf16 v bitsLt_bf16_f32) (castH i)

def widen (i : Fin 9) (v : FVec F (SH i) .bf16) : FVec F (SH i) .f32 := extf .f32 v bitsLt_bf16_f32

/-! ## The steps -/

/-- A program of one device. -/
abbrev Step (F : FTy → Type) : Type 1 := Prog (TpuEff nD τ sig (Elt F) Λ₀ .tc) PUnit

/-- The words the body reads off its device number: the first mesh coordinate, and the half. -/
abbrev xWord (d : Dev nD) : BitVec 32 := Scalar.remsi (Scalar.divsi (Dev.word d) 16#32) 2#32
abbrev hWord (d : Dev nD) : BitVec 32 :=
  Scalar.remsi (Scalar.remsi (Scalar.divsi (Dev.word d) 1#32) 4#32) 2#32

/-- The devices the body talks to: its partner along the first axis, and its neighbour along the
    last. -/
abbrev partnerOf (d : Dev nD) : Dev nD := ⟨k0_dev1 d, k0_dev1_lt d⟩
abbrev neighbourOf (d : Dev nD) : Dev nD := ⟨k0_dev2 d, k0_dev2_lt d⟩

/-- 128 columns of the `x` block. -/
abbrev rX (b : ℕ) (hb : ∀ a, (![0, b] : Fin 2 → ℕ) a + S512x128.size a ≤ S512x512.size a) : Rect S512x512 :=
  Rect.unit (s := S512x512) ![0, b] S512x128.size hb
abbrev rXs : Rect S512x128 := Rect.unit (s := S512x128) ![0, 0] S512x128.size inb_S512x128_S512x128_0_0
abbrev rDy : Rect S512x2048 := Rect.unit (s := S512x2048) ![0, 0] S512x2048.size inb_S512x2048_S512x2048_0_0

/-- Columns `mo …` and `so …` of `x`, in bf16: the first for the device's own rows, the second for
    the partner's. -/
def castCols (mo so : ℕ) (hm : ∀ a, (![0, mo] : Fin 2 → ℕ) a + S512x128.size a ≤ S512x512.size a)
    (hs : ∀ a, (![0, so] : Fin 2 → ℕ) a + S512x128.size a ≤ S512x512.size a) : Step F := do
  let v : Vec F S512x128 .f32 ← Prog.lift (.load xM (rX mo hm).toLoadRect (View.loadsAt_vmem h_S512x128))
  let _ : Vec F S512x128 .bf16 ← Prog.lift (.load xmM rXs.toLoadRect (View.loadsAt_vmem h_S512x128))
  Prog.lift (.store xmM rXs (toHalf shapeCasts_S512x128_S512x128 v) Finset.univ
    (View.stores_vmem h_S512x128 ((Memref.isWhole_whole _).storeExact_slice rfl _ packedbf16_S512x128_S512x128_0_0) (fun _ => rfl)) (.inl rfl))
  let w : Vec F S512x128 .f32 ← Prog.lift (.load xM (rX so hs).toLoadRect (View.loadsAt_vmem h_S512x128))
  let _ : Vec F S512x128 .bf16 ← Prog.lift (.load xsM rXs.toLoadRect (View.loadsAt_vmem h_S512x128))
  Prog.lift (.store xsM rXs (toHalf shapeCasts_S512x128_S512x128 w) Finset.univ
    (View.stores_vmem h_S512x128 ((Memref.isWhole_whole _).storeExact_slice rfl _ packedbf16_S512x128_S512x128_0_0) (fun _ => rfl)) (.inl rfl))

/-- The test of one of the four places `(p, h)` a device may have. -/
abbrev atPlace (d : Dev nD) (p h : BitVec 32) : Prop :=
  Scalar.cmpi .ne (Scalar.extui (Scalar.andi (Scalar.cmpi .eq (xWord d) p) (Scalar.cmpi .eq (hWord d) h)) : BitVec 32) 0#32 = 1#1

/-- The columns of `x`, as the device's place has them. -/
def castX (d : Dev nD) : Step F := do
  if atPlace d 0#32 0#32 then castCols 0 256 inb_S512x512_S512x128_0_0 inb_S512x512_S512x128_0_256 else pure ⟨⟩
  if atPlace d 0#32 1#32 then castCols 128 384 inb_S512x512_S512x128_0_128 inb_S512x512_S512x128_0_384 else pure ⟨⟩
  if atPlace d 1#32 0#32 then castCols 256 0 inb_S512x512_S512x128_0_256 inb_S512x512_S512x128_0_0 else pure ⟨⟩
  if atPlace d 1#32 1#32 then castCols 384 128 inb_S512x512_S512x128_0_384 inb_S512x512_S512x128_0_128 else pure ⟨⟩

/-- The gradient block, in bf16. -/
def castDy : Step F := do
  let v : Vec F S512x2048 .f32 ← Prog.lift (.load dyM rDy.toLoadRect (View.loadsAt_vmem h_S512x2048))
  let _ : Vec F S512x2048 .bf16 ← Prog.lift (.load dybM rDy.toLoadRect (View.loadsAt_vmem h_S512x2048))
  Prog.lift (.store dybM rDy (toHalf shapeCasts_S512x2048_S512x2048 v) Finset.univ
    (View.stores_vmem h_S512x2048 ((Memref.isWhole_whole _).storeExact_slice rfl _ packedbf16_S512x2048_S512x2048_0_0) (fun _ => rfl)) (.inl rfl))

/-- Store `v` as chunk `i` of a half-block buffer. -/
abbrev storeChunk (M : Memref sig .tc .vmem S128x2048 .bf16) (hM : M.IsWhole) (i : Fin 9) (v : FVec F (SH i) .bf16) : Step F :=
  Prog.lift (.store M (rH i) v Finset.univ
    (View.stores_vmem (posH i) (hM.storeExact_slice rfl _ (packedH i)) (fun _ => rfl)) (.inl rfl))

/-- Store `v` as chunk `i` of the result, at the device's own rows, or the other ones. -/
abbrev storeOwn (d : Dev nD) (i : Fin 9) (v : FVec F (SH i) .f32) : Step F :=
  Prog.lift (.store outM (rOwn d i) v Finset.univ (View.stores_vmem_bits_univ (posH i) rfl) (.inl rfl))
abbrev storeOther (d : Dev nD) (i : Fin 9) (v : FVec F (SH i) .f32) : Step F :=
  Prog.lift (.store outM (rOther d i) v Finset.univ (View.stores_vmem_bits_univ (posH i) rfl) (.inl rfl))

/-- The product for the partner, chunk `i`. -/
def sendGemm (i : Fin 9) : Step F := do
  let v : Vec F S512x128 .bf16 ← Prog.lift (.load xsM rXs.toLoadRect (View.loadsAt_vmem h_S512x128))
  let w : Vec F (SD i) .bf16 ← Prog.lift (.load dybM (rD i).toLoadRect (View.loadsAt_vmem (posD i)))
  let _ : Vec F (SH i) .bf16 ← Prog.lift (.load sendM (rH i).toLoadRect (View.loadsAt_vmem (posH i)))
  storeChunk sendM (Memref.isWhole_whole _) i (prodHalf i v w)

/-- Chunk `i` of `M` copied to device `d`'s chunk of `M'`. -/
abbrev startCopy (M M' : Memref sig .tc .vmem S128x2048 .bf16) (hM : M.IsWhole) (hM' : M'.IsWhole)
    (s s' : DmaSems sig S9) (d : Dev nD) (i : Fin 9) : Step F :=
  Prog.lift (.enqueueDma (chunk M i) (.remote (Dev.tc d) (chunk M' i) (.dma (semAt s i))) (.dma (semAt s' i))
    (hM.wordExact_slice rfl _ (wordsH i)) (hM'.wordExact_slice rfl _ (wordsH i)) ⟨⟨rfl, Or.inl rfl⟩, trivial⟩)

/-- The first exchange's copy of chunk `i`: to the partner. -/
def startA (d : Dev nD) (i : Fin 9) : Step F :=
  startCopy sendM landM (Memref.isWhole_whole _) (Memref.isWhole_whole _) cc0_scratch7 cc0_scratch8 (partnerOf d) i

/-- The second exchange's: to the neighbour. -/
def startB (d : Dev nD) (i : Fin 9) : Step F :=
  startCopy sumM otherM (Memref.isWhole_whole _) (Memref.isWhole_whole _) cc0_scratch9 cc0_scratch10 (neighbourOf d) i

/-- The device's own product, chunk `i`, into its own rows of the result. -/
def mineGemm (d : Dev nD) (i : Fin 9) : Step F := do
  let v : Vec F S512x128 .bf16 ← Prog.lift (.load xmM rXs.toLoadRect (View.loadsAt_vmem h_S512x128))
  let w : Vec F (SD i) .bf16 ← Prog.lift (.load dybM (rD i).toLoadRect (View.loadsAt_vmem (posD i)))
  let _ : Vec F (SH i) .f32 ← Prog.lift (.load outM (rOwn d i).toLoadRect (View.loadsAt_vmem (posH i)))
  storeOwn d i (prod i v w)

/-- Wait until chunk `i` of `M'` has landed (or of `M` has left), on semaphore `i` of `s`. -/
abbrev waitChunk (s : DmaSems sig S9) (M M' : Memref sig .tc .vmem S128x2048 .bf16) (hM : M.IsWhole) (hM' : M'.IsWhole)
    (i : Fin 9) : Step F :=
  Prog.lift (.waitDma2 (semAt s i) (chunk M i) (chunk M' i)
    (hM.wordExact_slice rfl _ (wordsH i)) (hM'.wordExact_slice rfl _ (wordsH i)))

/-- The partner's product added in, and the sum sent on: chunk `i`. -/
def addChunk (d : Dev nD) (i : Fin 9) : Step F := do
  waitChunk cc0_scratch8 sendM landM (Memref.isWhole_whole _) (Memref.isWhole_whole _) i
  let v : Vec F (SH i) .f32 ← Prog.lift (.load outM (rOwn d i).toLoadRect (View.loadsAt_vmem (posH i)))
  let w : Vec F (SH i) .bf16 ← Prog.lift (.load landM (rH i).toLoadRect (View.loadsAt_vmem (posH i)))
  let _ : Vec F (SH i) .f32 ← Prog.lift (.load outM (rOwn d i).toLoadRect (View.loadsAt_vmem (posH i)))
  storeOwn d i (total i v w)
  let _ : Vec F (SH i) .bf16 ← Prog.lift (.load sumM (rH i).toLoadRect (View.loadsAt_vmem (posH i)))
  storeChunk sumM (Memref.isWhole_whole _) i (totalHalf i (total i v w))
  startB d i

/-- The neighbour's sum into the other rows of the result: chunk `i`. -/
def takeChunk (d : Dev nD) (i : Fin 9) : Step F := do
  waitChunk cc0_scratch10 sumM otherM (Memref.isWhole_whole _) (Memref.isWhole_whole _) i
  let w : Vec F (SH i) .bf16 ← Prog.lift (.load otherM (rH i).toLoadRect (View.loadsAt_vmem (posH i)))
  let _ : Vec F (SH i) .f32 ← Prog.lift (.load outM (rOther d i).toLoadRect (View.loadsAt_vmem (posH i)))
  storeOther d i (widen i w)

/-- The device's own copies of chunk `i` have left. -/
def drainChunk (i : Fin 9) : Step F := do
  waitChunk cc0_scratch7 landM sendM (Memref.isWhole_whole _) (Memref.isWhole_whole _) i
  waitChunk cc0_scratch9 otherM sumM (Memref.isWhole_whole _) (Memref.isWhole_whole _) i

/-- A chunk's two products, and the copy to the partner between them. -/
def chunkA (d : Dev nD) (i : Fin 9) : Step F := do
  sendGemm i
  startA d i
  mineGemm d i

/-- A step for each chunk of a list, in order. -/
def each (f : Fin 9 → Step F) : List (Fin 9) → Step F
  | [] => pure ⟨⟩
  | i :: l => do f i; each f l

/-- The body, step by step. -/
def body : Step F := do
  let d : Dev nD ← Prog.lift .deviceId
  semSignalWord (partnerOf d) barS 1#32
  semSignalWord (neighbourOf d) barS 1#32
  castX d
  castDy
  sendGemm 0
  semWaitWord barS 2#32
  startA d 0
  mineGemm d 0
  each (chunkA d) [1, 2, 3, 4, 5, 6, 7, 8]
  each (addChunk d) [0, 1, 2, 3, 4, 5, 6, 7, 8]
  each (takeChunk d) [0, 1, 2, 3, 4, 5, 6, 7, 8]
  each drainChunk [0, 1, 2, 3, 4, 5, 6, 7, 8]

end Cert.Gradient
end
-- ==== Proof.Own.lean ====
module

public import proofs.«01_k».proof.Proof.Program
public import Idealize.ShloMosaic.Lib.Pipeline.Launch
public import Idealize.ShloMosaic.Lib.Pipeline.Kit
public import Idealize.ShloMosaic.Lib.Tactic

@[expose] public section

/-! # Loads, stores and loops over owned pieces of a buffer

The rules of a load and of a store, for a device that owns exactly the rectangle accessed; of a load from inside a
buffer owned whole; and of a loop that does one step per chunk of a list. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The ghost state: the pipeline's copy of the rounds library, and the exchange's own, with duty names `Bool`. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev noVariants : Variants := Variants.none

/-- Device `c`'s run of `p` ends well, in `Q`. -/
abbrev runs (c : Dev nD) (p : Step F) (Q : PUnit.{1} → sProp 𝕄) : sProp 𝕄 :=
  wp frame (wpE (defs₀ (F := F)) noVariants (c : Thread nD τ) none) Set.univ p Q

/-- Device `c` owns the piece `M` of a buffer, which reads `X`. -/
abbrev piece (c : Dev nD) {s : Shape} {e : EltTy} (M : Memref sig .tc .vmem s e) (X : s.Idx → Elt F e) : sProp 𝕄 :=
  owns (c : Thread nD τ) M fullShare X

/-- It owns the piece, whatever it holds. -/
abbrev anyPiece (c : Dev nD) {s : Shape} {e : EltTy} (M : Memref sig .tc .vmem s e) : sProp 𝕄 :=
  iprop(∃ X : s.Idx → Elt F e, piece c M X)

section Access

variable (c : Dev nD) {s : Shape} {e : EltTy} {M : Memref sig .tc .vmem s e} (r : Rect s) (hr : ∀ a, r.stride a = 1)

/-- A load of a rectangle owned by itself. -/
theorem load_piece {Q : PUnit.{1} → sProp 𝕄} {hl : M.view.LoadsAt r.toLoadRect} {k : (r.shape.Idx → Elt F e) → Step F} (X : r.shape.Idx → Elt F e) :
    piece c (M.slice r hr) X
      ⊢ iprop((piece c (M.slice r hr) X -∗ runs c (k X) Q) -∗ runs c (.op (.load M r.toLoadRect hl) k) Q) := by
  unfold piece owns
  iintro ⟨%f, %hf, H⟩ Hk
  iapply (wp_load_rect noVariants (c : Thread nD τ) none Set.univ (m := M) (r := r) (hl := hl) (k := k) (f := f) (q := fullShare)
    (S := (M.slice r hr).view.set) (Finset.Subset.refl _)) $$ H
  iintro H
  rw [show (M.access r).read (Elt F) f = X from hf]
  iapply Hk
  iexists f
  isplitr
  · ipureintro; exact hf
  · iexact H

/-- A store to a rectangle owned by itself. -/
theorem store_piece {Q : PUnit.{1} → sProp 𝕄} {w : r.shape.Idx → Elt F e} {hx : (M.access r).Stores Finset.univ}
    {hm : (Finset.univ : Finset r.shape.Idx) = Finset.univ ∨ ∀ a, r.stride a = 1} {k : PUnit → Step F} :
    anyPiece c (M.slice r hr)
      ⊢ iprop((piece c (M.slice r hr) w -∗ runs c (k ⟨⟩) Q) -∗ runs c (.op (.store M r w Finset.univ hx hm) k) Q) := by
  unfold anyPiece piece owns
  iintro ⟨%X, %f, %hf, H⟩ Hk
  iapply (wp_store noVariants (c : Thread nD τ) none Set.univ (m := M) (r := r) (w := w) (Mk := Finset.univ) (hx := hx) (hm := hm)
    (S := (M.slice r hr).view.set) (f := f) (k := k) (Finset.Subset.refl _)) $$ H
  iintro H
  iapply Hk
  iexists ((M.access r).write (Elt F) f w Finset.univ)
  isplitr
  · ipureintro; exact View.read_write_univ _ _
  · iexact H

/-- A load of a rectangle of a piece. -/
theorem load_inside {Q : PUnit.{1} → sProp 𝕄} {hl : M.view.LoadsAt r.toLoadRect} {k : (r.shape.Idx → Elt F e) → Step F} (X : s.Idx → Elt F e) :
    piece c M X
      ⊢ iprop((piece c M X -∗ runs c (k fun j => X (r.emb j)) Q) -∗ runs c (.op (.load M r.toLoadRect hl) k) Q) := by
  unfold piece owns
  iintro ⟨%f, %hf, H⟩ Hk
  iapply (wp_load_rect noVariants (c : Thread nD τ) none Set.univ (m := M) (r := r) (hl := hl) (k := k) (f := f) (q := fullShare)
    (S := M.view.set) (View.set_slice_subset _ _)) $$ H
  iintro H
  rw [show (M.access r).read (Elt F) f = fun j => X (r.emb j) from by rw [← hf]; rfl]
  iapply Hk
  iexists f
  isplitr
  · ipureintro; exact hf
  · iexact H

/-- A store over a whole piece: through a rectangle that is all of it. -/
theorem store_all {Q : PUnit.{1} → sProp 𝕄} {w : r.shape.Idx → Elt F e} {hx : (M.access r).Stores Finset.univ}
    {hm : (Finset.univ : Finset r.shape.Idx) = Finset.univ ∨ ∀ a, r.stride a = 1} {k : PUnit → Step F}
    (Y : s.Idx → Elt F e) (hall : ∀ i, ∃ j, r.emb j = i ∧ w j = Y i) :
    anyPiece c M
      ⊢ iprop((piece c M Y -∗ runs c (k ⟨⟩) Q) -∗ runs c (.op (.store M r w Finset.univ hx hm) k) Q) := by
  unfold anyPiece piece owns
  iintro ⟨%X, %f, %hf, H⟩ Hk
  iapply (wp_store noVariants (c : Thread nD τ) none Set.univ (m := M) (r := r) (w := w) (Mk := Finset.univ) (hx := hx) (hm := hm)
    (S := M.view.set) (f := f) (k := k) (View.set_slice_subset _ _)) $$ H
  iintro H
  iapply Hk
  iexists ((M.access r).write (Elt F) f w Finset.univ)
  isplitr
  · ipureintro
    funext i
    obtain ⟨j, rfl, hj⟩ := hall i
    rw [← hj]
    exact View.read_slice_write_emb _ _ _ (Finset.mem_univ j)
  · iexact H

end Access

/-! ## A loop over chunks -/

/-- `Φ` of every chunk of the list. -/
def all : List (Fin 9) → (Fin 9 → sProp 𝕄) → sProp 𝕄
  | [], _ => iprop(emp)
  | i :: l, Φ => iprop(Φ i ∗ all l Φ)

omit [FloatOps F] in
/-- Two assertions about every chunk are one about each. -/
theorem all_sep (l : List (Fin 9)) (Φ Ψ : Fin 9 → sProp 𝕄) :
    (all l fun i => iprop(Φ i ∗ Ψ i)) = iprop(all l Φ ∗ all l Ψ) := by
  have h : (all l fun i => iprop(Φ i ∗ Ψ i)) ⊢ iprop(all l Φ ∗ all l Ψ) := by
    induction l with
    | nil => unfold all; iintro -; isplitl <;> iempintro
    | cons i l ih =>
      unfold all
      iintro ⟨⟨H1, H2⟩, H⟩
      ihave H' := ih $$ H
      icases H' with ⟨H3, H4⟩
      isplitl [H1 H3]
      · isplitl [H1] <;> iassumption
      · isplitl [H2] <;> iassumption
  have h' : iprop(all l Φ ∗ all l Ψ) ⊢ all l fun i => iprop(Φ i ∗ Ψ i) := by
    clear h
    induction l with
    | nil => unfold all; iintro -; iempintro
    | cons i l ih =>
      unfold all
      iintro ⟨⟨H1, H2⟩, H3, H4⟩
      isplitl [H1 H3]
      · isplitl [H1] <;> iassumption
      · iapply ih; isplitl [H2] <;> iassumption
  exact BI.equiv_iff.mp ⟨h, h'⟩

omit [FloatOps F] in
theorem all_mono {Φ Ψ : Fin 9 → sProp 𝕄} (l : List (Fin 9)) (h : ∀ i, Φ i ⊢ Ψ i) : all l Φ ⊢ all l Ψ := by
  induction l with
  | nil => exact .rfl
  | cons i l ih => exact BI.sep_mono (h i) ih

/-- The chunks, in order. -/
abbrev chunks : List (Fin 9) := [0, 1, 2, 3, 4, 5, 6, 7, 8]

omit [FloatOps F] in
theorem all_chunks (Φ : Fin 9 → sProp 𝕄) : bigSep Finset.univ Φ = all chunks Φ := by
  have h : ∀ (i : Fin 9) (l : List (Fin 9)), (bigSepL (i :: l) Φ : sProp 𝕄) = all (i :: l) Φ := by
    intro i l
    induction l generalizing i with
    | nil => exact (BI.equiv_iff.mp ⟨sep_emp.1, sep_emp.2⟩).symm
    | cons j l ih => rw [bigSepL_cons_cons, ih]; rfl
  rw [bigSep_univ_eq_bigSepL chunks (by decide) (by decide)]
  exact h 0 _

/-- The first chunk and the rest. -/
theorem all_first (Φ : Fin 9 → sProp 𝕄) : all chunks Φ = iprop(Φ 0 ∗ all [1, 2, 3, 4, 5, 6, 7, 8] Φ) := rfl

/-- A loop: what its step does to the resources `R` — told by the chunks still to come —, given `Pre i` and leaving
    `Post i`, the whole loop does. -/
theorem run_each (c : Dev nD) (f : Fin 9 → Step F) (R : List (Fin 9) → sProp 𝕄) (Pre Post : Fin 9 → sProp 𝕄)
    (h : ∀ i l (Q : PUnit.{1} → sProp 𝕄), iprop(R (i :: l) ∗ Pre i ∗ (R l ∗ Post i -∗ Q ⟨⟩)) ⊢ runs c (f i) Q)
    (l : List (Fin 9)) (Q : PUnit.{1} → sProp 𝕄) :
    iprop(R l ∗ all l Pre ∗ (R [] ∗ all l Post -∗ Q ⟨⟩)) ⊢ runs c (each f l) Q := by
  induction l generalizing Q with
  | nil =>
    unfold each all
    rw [Prog.pure_eq_ret]
    unfold runs
    rw [wp_ret]
    iintro ⟨HR, -, Hk⟩
    imodintro
    iapply Hk
    isplitl
    · iexact HR
    · iempintro
  | cons i l ih =>
    unfold each all
    unfold runs
    rw [wp_bind]
    iintro ⟨HR, ⟨Hi, Hl⟩, Hk⟩
    iapply (h i l)
    isplitl [HR]; · iexact HR
    isplitl [Hi]; · iexact Hi
    iintro ⟨HR, Hi⟩
    iapply (ih Q)
    isplitl [HR]; · iexact HR
    isplitl [Hl]; · iexact Hl
    iintro ⟨HR, Hl⟩
    iapply Hk
    isplitl [HR]; · iexact HR
    isplitl [Hi] <;> iassumption

end Cert.Gradient
end
-- ==== Proof.Values.lean ====
module

public import proofs.«01_k».proof.Proof.Program

@[expose] public section

/-! # What every buffer holds

From the blocks `X c` of `x` and `D c` of `dy` that each device `c` starts with: what it computes for its partner, what
it computes itself, the totals, and the half of the result it is sent. -/

noncomputable section

namespace Cert.Gradient

open Idealize.ShloMosaic Idealize.ShloMosaic.TcCoe
open Idealize.SL.Sem
open Cert.KernelIdeal Cert.KernelIdeal.Gen

variable {F : FTy → Type} [FloatOps F]

/-! ## Who talks to whom -/

theorem partner_partner : ∀ c : Dev nD, partnerOf (partnerOf c) = c := by decide +kernel
theorem neighbour_neighbour : ∀ c : Dev nD, neighbourOf (neighbourOf c) = c := by decide +kernel

/-- The first column of `x` whose rows of the result the device sums itself, and of those its partner sums. -/
abbrev mineCol (c : Dev nD) : ℕ := 256 * (c.val / 16) + 128 * (c.val % 2)
abbrev sentCol (c : Dev nD) : ℕ := 256 * (1 - c.val / 16) + 128 * (c.val % 2)

theorem inbMine : ∀ (c : Dev nD) (a : Fin 2), (![0, mineCol c] : Fin 2 → ℕ) a + S512x128.size a ≤ S512x512.size a := by
  decide +kernel
theorem inbSent : ∀ (c : Dev nD) (a : Fin 2), (![0, sentCol c] : Fin 2 → ℕ) a + S512x128.size a ≤ S512x512.size a := by
  decide +kernel

/-! ## The contents -/

variable (X : Dev nD → FVec F S512x512 .f32) (D : Dev nD → FVec F S512x2048 .f32)

/-- 128 columns of a block of `x`, in bf16. -/
def columns (v : FVec F S512x512 .f32) (b : ℕ) (hb : ∀ a, (![0, b] : Fin 2 → ℕ) a + S512x128.size a ≤ S512x512.size a) :
    FVec F S512x128 .bf16 :=
  toHalf shapeCasts_S512x128_S512x128 (fun j => v ((rX b hb).emb j))

def mineX (c : Dev nD) : FVec F S512x128 .bf16 := columns (X c) (mineCol c) (inbMine c)
def sentX (c : Dev nD) : FVec F S512x128 .bf16 := columns (X c) (sentCol c) (inbSent c)

/-- The block of `dy` in bf16, and its chunk `i`. -/
def halfDy (c : Dev nD) : FVec F S512x2048 .bf16 := toHalf shapeCasts_S512x2048_S512x2048 (D c)
def chunkDy (c : Dev nD) (i : Fin 9) : FVec F (SD i) .bf16 := fun j => halfDy D c ((rD i).emb j)

/-- What the device computes for its partner, and for its own rows. -/
def sentProd (c : Dev nD) (i : Fin 9) : FVec F (SH i) .bf16 := prodHalf i (sentX X c) (chunkDy D c i)
def mineProd (c : Dev nD) (i : Fin 9) : FVec F (SH i) .f32 := prod i (mineX X c) (chunkDy D c i)

/-- The result at the device's own rows: its product and its partner's; and at the other rows: the neighbour's total. -/
def ownPart (c : Dev nD) (i : Fin 9) : FVec F (SH i) .f32 := total i (mineProd X D c i) (sentProd X D (partnerOf c) i)
def passedOn (c : Dev nD) (i : Fin 9) : FVec F (SH i) .bf16 := totalHalf i (ownPart X D c i)
def otherPart (c : Dev nD) (i : Fin 9) : FVec F (SH i) .f32 := widen i (passedOn X D (neighbourOf c) i)

end Cert.Gradient
end
-- ==== Proof.Cells.lean ====
module

public import proofs.«01_k».proof.Proof.Own
public import proofs.«01_k».proof.Proof.Values

@[expose] public section

/-! # The semaphores, and what each of them hands over

A device has a barrier semaphore and four arrays of nine transfer semaphores: for each chunk, that the copy to the partner
has left and that the partner's has landed, that the copy to the neighbour has left and that the neighbour's has landed.
Each is signalled in one round only. The partner's barrier signal gives the right to write the partner's landing buffer;
the neighbour's the right to write the neighbour's. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## The cells -/

/-- The transfer semaphores: left for the partner, landed from the partner, left for the neighbour, landed from it. -/
abbrev sems : Fin 4 → DmaSems sig S9 := ![cc0_scratch7, cc0_scratch8, cc0_scratch9, cc0_scratch10]

/-- A transfer semaphore of a device. -/
abbrev xsem (p : Fin 4 × Fin 9) : SemLoc sig := .dma (semAt (sems p.1) p.2)

/-- A semaphore of a device: its barrier, or one of the transfer semaphores. -/
abbrev Key : Type := Option (Fin 4 × Fin 9)

abbrev ksem : Key → SemLoc sig
  | none => .reg barS
  | some p => xsem p

abbrev cell (c : Dev nD) (k : Key) : GSem nD τ sig := ((c : Thread nD τ), ksem k)

set_option maxRecDepth 8000 in
theorem ksem_injective : Function.Injective ksem := by
  have h : ∀ a b : Key, ksem a = ksem b → a = b := by decide +kernel
  exact fun a b => h a b

open Classical in
/-- Which key a semaphore has, if any. -/
def keyOf (s : SemLoc sig) : Option Key := if h : ∃ k, ksem k = s then some h.choose else none

theorem keyOf_ksem (k : Key) : keyOf (ksem k) = some k := by
  unfold keyOf
  rw [dif_pos ⟨k, rfl⟩]
  exact congrArg some (ksem_injective (Exists.choose_spec (p := fun k' => ksem k' = ksem k) ⟨k, rfl⟩))

theorem keyOf_none {s : SemLoc sig} (h : ∀ k, ksem k ≠ s) : keyOf s = none := by
  unfold keyOf
  rw [dif_neg fun ⟨k, hk⟩ => h k hk]

/-! ## The schedule -/

/-- What one transfer of chunk `i` credits. -/
abbrev credit (i : Fin 9) : ℕ := (chunk landM i).view.dmaCredit
theorem credit_pos (i : Fin 9) : 0 < credit i := View.dmaCredit_pos _ (posH i)

abbrev units : Key → ℕ
  | none => 1
  | some p => credit p.2
theorem units_pos : ∀ k, 0 < units k
  | none => Nat.one_pos
  | some p => credit_pos p.2

abbrev dutiesOf : Key → Finset Bool
  | none => Finset.univ
  | some _ => {false}

variable (X : Dev nD → FVec F S512x512 .f32) (D : Dev nD → FVec F S512x2048 .f32)

/-- What chunk `i`'s transfer semaphore `a` hands device `c`. -/
def xferPay (c : Dev nD) (a : Fin 4) (i : Fin 9) : sProp 𝕄 :=
  match a with
  | 0 => anyPiece c (chunk sendM i)
  | 1 => piece c (chunk landM i) (sentProd X D (partnerOf c) i)
  | 2 => anyPiece c (chunk sumM i)
  | 3 => piece c (chunk otherM i) (passedOn X D (neighbourOf c) i)

/-- What its barrier hands it: `false` the partner's landing buffer, `true` the neighbour's. -/
def barPay (c : Dev nD) : Bool → sProp 𝕄
  | false => all chunks fun i => anyPiece (partnerOf c) (chunk landM i)
  | true => all chunks fun i => anyPiece (neighbourOf c) (chunk otherM i)

def payOf (c : Dev nD) : Key → Bool → sProp 𝕄
  | none, d => barPay c d
  | some p, _ => xferPay X D c p.1 p.2

instance anyPiece_storable (c : Dev nD) {s : Shape} {e : EltTy} (M : Memref sig .tc .vmem s e) :
    BI.Storable (upEmb : UEmb _ 𝕄) (anyPiece (F := F) c M) := by unfold anyPiece; infer_instance

instance all_storable (l : List (Fin 9)) (Φ : Fin 9 → sProp 𝕄) [h : ∀ i, BI.Storable (upEmb : UEmb _ 𝕄) (Φ i)] :
    BI.Storable (upEmb : UEmb _ 𝕄) (all l Φ) := by
  induction l with
  | nil => unfold all; infer_instance
  | cons i l ih => unfold all; infer_instance

instance payOf_storable (c : Dev nD) (k : Key) (d : Bool) : BI.Storable (upEmb : UEmb _ 𝕄) (payOf X D c k d) := by
  rcases k with _ | ⟨a, i⟩
  · cases d <;> (unfold payOf barPay; infer_instance)
  · fin_cases a <;> (simp only [payOf, xferPay]; infer_instance)

/-- One round, round 0: a barrier with two duties of one unit, a transfer semaphore with one of the chunk's credit. -/
def sched : Rounds.Schedule (GSem nD τ sig) Bool 𝕄 where
  duties g r := if r = 0 ∧ g.1.2 = .tc then ((keyOf g.2).map dutiesOf).getD ∅ else ∅
  unitless _ := False
  amount g _ _ := ((keyOf g.2).map units).getD 1
  payload g _ d := ((keyOf g.2).map fun k => payOf X D g.1.1 k d).getD iprop(emp)
  amount_pos g _ _ _ := by
    rcases keyOf g.2 with _ | k
    · exact Nat.one_pos
    · exact units_pos k

instance sched_storable (g : GSem nD τ sig) (r : ℕ) (d : Bool) :
    BI.Storable (upEmb : UEmb _ 𝕄) ((sched X D).payload g r d) := by
  show BI.Storable upEmb (((keyOf g.2).map fun k => payOf X D g.1.1 k d).getD iprop(emp))
  rcases keyOf g.2 with _ | k
  · rw [Option.map_none, Option.getD_none]; infer_instance
  · rw [Option.map_some, Option.getD_some]; infer_instance

theorem duties_cell (c : Dev nD) (k : Key) : (sched X D).duties (cell c k) 0 = dutiesOf k := by
  dsimp only [sched]
  rw [if_pos ⟨rfl, rfl⟩, keyOf_ksem, Option.map_some, Option.getD_some]

theorem duties_later (g : GSem nD τ sig) : ∀ r, 1 ≤ r → (sched X D).duties g r = ∅ :=
  fun r hr => by dsimp only [sched]; rw [if_neg fun h => by omega]

theorem amount_cell (c : Dev nD) (k : Key) (d : Bool) : (sched X D).amount (cell c k) 0 d = units k := by
  dsimp only [sched]
  rw [keyOf_ksem, Option.map_some, Option.getD_some]

theorem payload_cell (c : Dev nD) (k : Key) (d : Bool) : (sched X D).payload (cell c k) 0 d = payOf X D c k d := by
  dsimp only [sched]
  rw [keyOf_ksem, Option.map_some, Option.getD_some]

theorem expect_bar (c : Dev nD) : (sched X D).expect (cell c none) 0 = 2 := by
  unfold Schedule.expect Schedule.amountOf
  rw [duties_cell, Finset.sum_congr rfl fun d _ => amount_cell X D c none d]; rfl

theorem expect_xfer (c : Dev nD) (p : Fin 4 × Fin 9) : (sched X D).expect (cell c (some p)) 0 = credit p.2 := by
  unfold Schedule.expect Schedule.amountOf
  rw [duties_cell, Finset.sum_singleton, amount_cell]

/-- All of a barrier's round: both landing buffers. -/
theorem rest_bar (c : Dev nD) :
    bigSep ((sched X D).duties (cell c none) 0 \ ∅) (fun d => (sched X D).payload (cell c none) 0 d)
      = iprop(barPay c false ∗ barPay c true) := by
  rw [Finset.sdiff_empty, duties_cell, show dutiesOf none = Finset.univ from rfl,
    bigSep_univ_eq_bigSepL [false, true] (by decide) (by decide), bigSepL_cons_cons, bigSepL_singleton,
    payload_cell, payload_cell]
  rfl

theorem rest_xfer (c : Dev nD) (p : Fin 4 × Fin 9) :
    bigSep ((sched X D).duties (cell c (some p)) 0 \ ∅) (fun d => (sched X D).payload (cell c (some p)) 0 d)
      = xferPay X D c p.1 p.2 := by
  rw [Finset.sdiff_empty, duties_cell, bigSep_singleton, payload_cell]; rfl

/-! ## What a device owes -/

/-- The credits owed device `d`'s landing semaphores `a`, for a list of chunks. -/
def owe (d : Dev nD) (a : Fin 4) : List (Fin 9) → CellTallies nD τ sig Unit
  | [] => 0
  | i :: l => owe d a l + tallyAt (cell d (some (a, i))) () (credit i)

/-- The copies still to be made: to the neighbour, and, for the chunks `l`, to the partner. -/
abbrev owed (c : Dev nD) (l : List (Fin 9)) : CellTallies nD τ sig Unit :=
  owe (neighbourOf c) 3 chunks + owe (partnerOf c) 1 l

abbrev owed₁ (c : Dev nD) : CellTallies nD τ sig Unit := owed c chunks + tallyAt (cell (neighbourOf c) none) () 1
abbrev owed₀ (c : Dev nD) : CellTallies nD τ sig Unit := owed₁ c + tallyAt (cell (partnerOf c) none) () 1

/-- The levels: whoever waits at a semaphore owes only to higher ones. -/
abbrev levelOf : Key → ℕ
  | none => 1
  | some (a, _) => if a = 1 then 2 else if a = 3 then 3 else 0

abbrev labels (g : GSem nD τ sig) : Finset Unit := if g.1.2 = .tc then {()} else ∅
def level (g : GSem nD τ sig) (_ : Unit) : ℕ := ((keyOf g.2).map levelOf).getD 0

theorem level_cell (c : Dev nD) (k : Key) : level (cell c k) () = levelOf k := by
  unfold level
  rw [keyOf_ksem, Option.map_some, Option.getD_some]

theorem tally_pos {g g' : GSem nD τ sig} {n : ℕ} {u : Unit} (h : 0 < (tallyAt g () n : CellTallies nD τ sig Unit) g' u) :
    g' = g := by
  rw [tallyAt_apply] at h
  by_contra hn
  rw [if_neg fun h' => hn h'.1] at h
  exact Nat.lt_irrefl 0 h

theorem add_pos' {O O' : CellTallies nD τ sig Unit} {g : GSem nD τ sig} {u : Unit} (h : 0 < (O + O') g u) :
    0 < O g u ∨ 0 < O' g u := by
  rw [Pi.add_apply, Finsupp.add_apply] at h
  omega

theorem owe_pos {d : Dev nD} {a : Fin 4} {l : List (Fin 9)} {g : GSem nD τ sig} {u : Unit} (h : 0 < owe d a l g u) :
    ∃ i, g = cell d (some (a, i)) := by
  induction l with
  | nil => exact absurd h (Nat.lt_irrefl 0)
  | cons i l ih =>
    rcases add_pos' h with h | h
    · exact ih h
    · exact ⟨i, tally_pos h⟩

/-- What a device owes is owed to cells of level at least `n`. -/
def Above (n : ℕ) (O : CellTallies nD τ sig Unit) : Prop :=
  ∀ g u, 0 < O g u → ∃ d k, g = cell d k ∧ n < levelOf k

theorem above_add {n : ℕ} {O O' : CellTallies nD τ sig Unit} (h : Above n O) (h' : Above n O') : Above n (O + O') :=
  fun g u hg => (add_pos' hg).elim (h g u) (h' g u)

theorem above_owe {n : ℕ} (d : Dev nD) (a : Fin 4) (l : List (Fin 9)) (h : ∀ i, n < levelOf (some (a, i))) : Above n (owe d a l) :=
  fun g u hg => by obtain ⟨i, hi⟩ := owe_pos hg; exact ⟨d, _, hi, h i⟩

theorem above_tally {n : ℕ} (d : Dev nD) (k : Key) (m : ℕ) (h : n < levelOf k) : Above n (tallyAt (cell d k) () m) :=
  fun g u hg => ⟨d, k, tally_pos hg, h⟩

theorem above_owed {n : ℕ} (c : Dev nD) (l : List (Fin 9)) (h : n < 2) : Above n (owed c l) :=
  above_add (above_owe _ _ _ fun i => by show n < 3; omega) (above_owe _ _ _ fun i => by show n < 2; omega)

theorem above_owed₀ (c : Dev nD) : Above 0 (owed₀ c) :=
  above_add (above_add (above_owed c chunks (by decide)) (above_tally _ _ _ (by decide))) (above_tally _ _ _ (by decide))

omit [FloatOps F] in
/-- A wait below everything owed. -/
theorem may_wait (c : Dev nD) (s : SemLoc sig) (O : CellTallies nD τ sig Unit) (n : ℕ) (hs : level ((c : Thread nD τ), s) () ≤ n)
    (hO : Above n O) : (levAts labels level : sProp 𝕄) ⊢ MayWait (c : Thread nD τ) s () O :=
  MayOwe.of_cut (L := labels) (lev := level) n (fun p hp => by rw [Finset.mem_singleton.mp hp]; exact Finset.mem_singleton_self _)
    (fun g u hg => by obtain ⟨d, k, rfl, -⟩ := hO g u hg; exact Finset.mem_singleton_self _)
    (fun p hp => by rw [Finset.mem_singleton.mp hp]; exact hs)
    (fun g u hg => by obtain ⟨d, k, rfl, h⟩ := hO g u hg; rw [level_cell]; exact h)

end Cert.Gradient
end
-- ==== Proof.Geometry.lean ====
module

public import proofs.«01_k».proof.Proof.Cells

@[expose] public section

/-! # A buffer is its chunks

The nine chunks of a half block cover it and are disjoint, and so do the eighteen of the result: nine of the device's own
rows, nine of the others. So a buffer owned whole is its chunks, and back; and contents given chunk by chunk are the
contents of one buffer. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ UU ℕ

/-! ## Contents given piece by piece -/

section Glue

variable {s : Shape} {α : Type} {T : Type} [Fintype T] [DecidableEq T] (r : T → Rect s)
  (hd : ∀ t t', t ≠ t' → Disjoint (r t).set (r t').set)
  (hcov : ∀ i : s.Idx, ∃ t, i ∈ (r t).set)

omit [Fintype T] [DecidableEq T] in
theorem glue_exists (hcov : ∀ i : s.Idx, ∃ t, i ∈ (r t).set) (i : s.Idx) : ∃ p : (t : T) × (r t).shape.Idx, (r p.1).emb p.2 = i := by
  obtain ⟨t, ht⟩ := hcov i
  obtain ⟨j, hj⟩ := LoadRect.exists_idx_of_mem _ ht
  exact ⟨⟨t, j⟩, hj⟩

/-- The contents that are `v t` on rectangle `t` of a cover. -/
def glue (v : (t : T) → (r t).shape.Idx → α) (i : s.Idx) : α :=
  v (glue_exists r hcov i).choose.1 (glue_exists r hcov i).choose.2

omit [Fintype T] in
include hd in
theorem glue_emb (v : (t : T) → (r t).shape.Idx → α) (t : T) (j : (r t).shape.Idx) : glue r hcov v ((r t).emb j) = v t j := by
  have h := (glue_exists r hcov ((r t).emb j)).choose_spec
  unfold glue
  generalize (glue_exists r hcov ((r t).emb j)).choose = p at h ⊢
  obtain ⟨t', j'⟩ := p
  have ht : t' = t := by
    by_contra hn
    exact Finset.disjoint_left.mp (hd t' t hn) ((r t').idx_mem j') (by
      rw [show (r t').idx j' = (r t).idx j from h]; exact (r t).idx_mem j)
  subst ht
  have hj : j' = j := (r t').emb.injective h
  rw [hj]

omit [DecidableEq T] in
theorem cover_union (hcov : ∀ i : s.Idx, ∃ t, i ∈ (r t).set) : (Finset.univ : Finset T).biUnion (fun t => (r t).set) = Finset.univ :=
  Finset.eq_univ_iff_forall.mpr fun i => by
    obtain ⟨t, ht⟩ := hcov i
    exact Finset.mem_biUnion.mpr ⟨t, Finset.mem_univ _, ht⟩

end Glue

instance elt_nonempty (e : EltTy) : Nonempty (Elt F e) := by
  have h (φ : FTy) : Nonempty (F φ) := ⟨FloatOps.ofBits φ 0⟩
  cases e <;> first | exact h _ | exact ⟨(0 : BitVec _)⟩

/-! ## The nine chunks of a half block -/

theorem firsts : ∀ i i' : Fin 9, i ≠ i' → first i + width i ≤ first i' ∨ first i' + width i' ≤ first i := by decide

theorem chunk_of : ∀ x : Fin 2048, ∃ i : Fin 9, first i ≤ x.val ∧ x.val < first i + width i := by
  intro x
  refine ⟨⟨(x.val + 128) / 256, by omega⟩, ?_⟩
  have := x.isLt
  unfold first width
  dsimp only
  split <;> omega

theorem half_disjoint (i i' : Fin 9) (h : i ≠ i') : Disjoint (rH i).set (rH i').set :=
  Rect.unit_disjoint (1 : Fin 2) (firsts i i' h)

theorem half_cover (x : S128x2048.Idx) : ∃ i, x ∈ (rH i).set := by
  obtain ⟨i, h1, h2⟩ := chunk_of (x 1)
  refine ⟨i, Rect.mem_set_unit.mpr fun a => ?_⟩
  fin_cases a
  · exact ⟨Nat.zero_le _, by have := (x 0).isLt; exact (Nat.zero_add _).symm ▸ this⟩
  · exact ⟨h1, h2⟩

/-- A half-block buffer, whatever it holds, is its nine chunks. -/
theorem split_half (c : Dev nD) (M : Memref sig .tc .vmem S128x2048 .bf16) :
    anyPiece (F := F) c M ⊢ all chunks fun i => anyPiece c (chunk M i) := by
  rw [← all_chunks]
  unfold anyPiece piece
  iintro ⟨%X, H⟩
  iapply ((owns_rects (c : Thread nD τ) M fullShare rH (fun _ _ => rfl) half_disjoint (cover_union rH half_cover) X).trans
    (bigSep_mono fun i _ => show _ ⊢ iprop(∃ Y, owns (c : Thread nD τ) (chunk M i) fullShare Y) from by iintro H; iexists _; iexact H))
  iexact H

/-- Nine chunks, whatever they hold, are the buffer. -/
theorem join_half (c : Dev nD) (M : Memref sig .tc .vmem S128x2048 .bf16) :
    (all chunks fun i => anyPiece (F := F) c (chunk M i)) ⊢ anyPiece c M := by
  rw [← all_chunks]
  unfold anyPiece piece
  have : ∀ i : Fin 9, Nonempty ((SH i).Idx → Elt F .bf16) := fun i => ⟨fun _ => Classical.choice (elt_nonempty .bf16)⟩
  iintro H
  ihave H' := (BI.bigSep_exists_pi Finset.univ (fun (i : Fin 9) (Y : (SH i).Idx → Elt F .bf16) => owns (c : Thread nD τ) (chunk M i) fullShare Y)) $$ H
  icases H' with ⟨%Y, H⟩
  iexists (glue rH half_cover Y)
  have h := owns_of_rects (Ix := Unit) (Name := ℕ) (U := UU) (Lvl := ℕ) (c : Thread nD τ) M fullShare rH (fun _ _ => rfl) half_disjoint
    (cover_union rH half_cover) (glue rH half_cover Y)
  simp only [glue_emb rH half_disjoint half_cover Y] at h
  iapply h
  iexact H

/-! ## The eighteen chunks of the result -/

/-- The output memref's piece at the device's own rows of chunk `i`, and at the others. -/
abbrev ownM (c : Dev nD) (i : Fin 9) : Memref sig .tc .vmem (SH i) .f32 := outM.slice (rOwn c i) (fun _ => rfl)
abbrev otherRowsM (c : Dev nD) (i : Fin 9) : Memref sig .tc .vmem (SH i) .f32 := outM.slice (rOther c i) (fun _ => rfl)

/-- Piece `t` of the result: `true` for the device's own rows. -/
abbrev rOut (c : Dev nD) : Bool × Fin 9 → Rect S256x2048
  | (true, i) => rOwn c i
  | (false, i) => rOther c i

theorem row_own : ∀ c : Dev nD, k0_off1 c 0 = 128 * (c.val % 2) := by decide +kernel
theorem row_other : ∀ c : Dev nD, k0_off10 c 0 = 128 - 128 * (c.val % 2) := by decide +kernel

theorem out_disjoint (c : Dev nD) (t t' : Bool × Fin 9) (h : t ≠ t') : Disjoint (rOut c t).set (rOut c t').set := by
  obtain ⟨b, i⟩ := t
  obtain ⟨b', i'⟩ := t'
  by_cases hi : i = i'
  · subst hi
    have h0 := row_own c
    have h1 := row_other c
    cases b <;> cases b'
    · exact absurd rfl h
    · refine Rect.unit_disjoint (0 : Fin 2) ?_
      show k0_off10 c 0 + 128 ≤ k0_off1 c 0 ∨ k0_off1 c 0 + 128 ≤ k0_off10 c 0
      omega
    · refine Rect.unit_disjoint (0 : Fin 2) ?_
      show k0_off1 c 0 + 128 ≤ k0_off10 c 0 ∨ k0_off10 c 0 + 128 ≤ k0_off1 c 0
      omega
    · exact absurd rfl h
  · cases b <;> cases b' <;> exact Rect.unit_disjoint (1 : Fin 2) (firsts i i' hi)

theorem out_cover (c : Dev nD) (x : S256x2048.Idx) : ∃ t, x ∈ (rOut c t).set := by
  obtain ⟨i, h1, h2⟩ := chunk_of (x 1)
  have hx : (x 0).val < 256 := (x 0).isLt
  have h0 := row_own c
  have h0' := row_other c
  by_cases hr : k0_off1 c 0 ≤ (x 0).val ∧ (x 0).val < k0_off1 c 0 + 128
  · refine ⟨(true, i), Rect.mem_set_unit.mpr fun a => ?_⟩
    fin_cases a
    · exact hr
    · exact ⟨h1, h2⟩
  · refine ⟨(false, i), Rect.mem_set_unit.mpr fun a => ?_⟩
    fin_cases a
    · show k0_off10 c 0 ≤ (x 0).val ∧ (x 0).val < k0_off10 c 0 + 128
      omega
    · exact ⟨h1, h2⟩

omit [FloatOps F] in
theorem out_pieces (Φ : Bool × Fin 9 → sProp 𝕄) :
    bigSep Finset.univ Φ = iprop((all chunks fun i => Φ (true, i)) ∗ all chunks fun i => Φ (false, i)) := by
  rw [bigSep_univ_prod, bigSep_univ_eq_bigSepL [true, false] (by decide) (by decide), bigSepL_cons_cons, bigSepL_singleton,
    all_chunks, all_chunks]
  rfl

/-- The output buffer, whatever it holds, is its eighteen pieces. -/
theorem split_out (c : Dev nD) :
    anyPiece (F := F) c outM ⊢ iprop((all chunks fun i => anyPiece c (ownM c i)) ∗ all chunks fun i => anyPiece c (otherRowsM c i)) := by
  unfold anyPiece piece
  iintro ⟨%X, H⟩
  ihave H' := ((owns_rects (c : Thread nD τ) outM fullShare (rOut c) (fun t _ => by obtain ⟨b, i⟩ := t; cases b <;> rfl)
    (out_disjoint c) (cover_union (rOut c) (out_cover c)) X).trans (Entails.of_eq (out_pieces _))) $$ H
  icases H' with ⟨H1, H2⟩
  isplitl [H1]
  · iapply (all_mono chunks fun i => ?_) $$ H1
    iintro H
    iexists _
    iexact H
  · iapply (all_mono chunks fun i => ?_) $$ H2
    iintro H
    iexists _
    iexact H

variable (X : Dev nD → FVec F S512x512 .f32) (D : Dev nD → FVec F S512x2048 .f32)

/-- What the output buffer holds at the end, piece by piece, and whole. -/
def outPart (c : Dev nD) : (t : Bool × Fin 9) → (rOut c t).shape.Idx → F .f32
  | (true, i) => ownPart X D c i
  | (false, i) => otherPart X D c i

def outAt (c : Dev nD) : FVec F S256x2048 .f32 := glue (rOut c) (out_cover c) (outPart X D c)

theorem outAt_own (c : Dev nD) (i : Fin 9) (j : (SH i).Idx) : outAt X D c ((rOwn c i).emb j) = ownPart X D c i j :=
  glue_emb (rOut c) (out_disjoint c) (out_cover c) (outPart X D c) (true, i) j

theorem outAt_other (c : Dev nD) (i : Fin 9) (j : (SH i).Idx) : outAt X D c ((rOther c i).emb j) = otherPart X D c i j :=
  glue_emb (rOut c) (out_disjoint c) (out_cover c) (outPart X D c) (false, i) j

/-- The eighteen pieces, filled, are the output buffer at `outAt`. -/
theorem join_out (c : Dev nD) :
    iprop((all chunks fun i => piece c (ownM c i) (ownPart X D c i)) ∗ all chunks fun i => piece c (otherRowsM c i) (otherPart X D c i))
      ⊢ piece c outM (outAt X D c) := by
  have h : ∀ t : Bool × Fin 9, ∀ a, (rOut c t).stride a = 1 := fun t _ => by obtain ⟨b, i⟩ := t; cases b <;> rfl
  have h' := owns_of_rects (Ix := Unit) (Name := ℕ) (U := UU) (Lvl := ℕ) (Val := Elt F) (c : Thread nD τ) outM fullShare (rOut c) h
    (out_disjoint c) (cover_union (rOut c) (out_cover c)) (outAt X D c)
  rw [out_pieces] at h'
  refine BIBase.Entails.trans ?_ h'
  refine BI.sep_mono (all_mono chunks fun i => Entails.of_eq ?_) (all_mono chunks fun i => Entails.of_eq ?_)
  · exact congrArg (fun v => piece c (ownM c i) v) (funext fun j => (outAt_own X D c i j).symm)
  · exact congrArg (fun v => piece c (otherRowsM c i) v) (funext fun j => (outAt_other X D c i j).symm)

end Cert.Gradient
end
-- ==== Proof.Steps.lean ====
module

public import proofs.«01_k».proof.Proof.Geometry

@[expose] public section

/-! # The steps of a chunk

Each step of the body, for any chunk: what it needs of the device's buffers, semaphores and rights, and what it leaves. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → FVec F S512x512 .f32) (D : Dev nD → FVec F S512x2048 .f32)
variable (K : Dev nD × Key → ℕ)

/-! ## What every device knows -/

/-- Every semaphore follows its schedule, and has reached its first round. -/
def records : sProp 𝕄 :=
  iprop((bigSep Finset.univ fun p : Dev nD × Key => cellInv ER (sched X D) (K p) (cell p.1 p.2))
    ∗ bigSep Finset.univ fun p : Dev nD × Key => reached ER (cell p.1 p.2) 0)

instance records_persistent : BI.Persistent (records X D K) := by unfold records; infer_instance

theorem record_inv (c : Dev nD) (k : Key) : records X D K ⊢ cellInv ER (sched X D) (K (c, k)) (cell c k) := by
  unfold records
  iintro ⟨H, -⟩
  have h : (bigSep Finset.univ fun p : Dev nD × Key => (cellInv ER (sched X D) (K p) (cell p.1 p.2) : sProp 𝕄))
      ⊢ cellInv ER (sched X D) (K (c, k)) (cell c k) := bigSep_elim (Finset.mem_univ (c, k))
  iapply h
  iexact H

theorem record_reached (c : Dev nD) (k : Key) : records X D K ⊢ reached ER (cell c k) 0 := by
  unfold records
  iintro ⟨-, H⟩
  have h : (bigSep Finset.univ fun p : Dev nD × Key => (reached ER (cell p.1 p.2) 0 : sProp 𝕄)) ⊢ reached ER (cell c k) 0 :=
    bigSep_elim (Finset.mem_univ (c, k))
  iapply h
  iexact H

/-- Those, and the levels. -/
def known : sProp 𝕄 := iprop(records X D K ∗ levAts labels level)

instance known_persistent : BI.Persistent (known X D K) := by unfold known; infer_instance

/-- Device `c` owes `O`, and may have waited anywhere. -/
abbrev owing (c : Dev nD) (O : CellTallies nD τ sig Unit) : sProp 𝕄 := iprop(∃ W, owes (c : Thread nD τ) O W)

/-- The right to signal the semaphore, its position before its round, and what its signal will credit. -/
abbrev right (c : Dev nD) (k : Key) (d : Bool) : sProp 𝕄 := dutyTok ER (cell c k) 0 d
abbrev start (c : Dev nD) (k : Key) : sProp 𝕄 := atPos ER (cell c k) 0 ∅ 0
abbrev due (c : Dev nD) (p : Fin 4 × Fin 9) : sProp 𝕄 := cred (tallyAt (cell c (some p)) () (credit p.2))
abbrev closed (c : Dev nD) (k : Key) : sProp 𝕄 := semVal (cell c k) 0

/-! ## Waits and copies -/

section Rules
variable {Q : PUnit.{1} → sProp (MT nD τ sig Unit (Elt F) ℕ UU ℕ)} {k : PUnit.{1} → Step F}

/-- The wait at a transfer semaphore: what it hands over, and the semaphore closed at zero. -/
theorem wait_xfer (c : Dev nD) (a : Fin 4) (i : Fin 9) (O : CellTallies nD τ sig Unit) (hO : Above (levelOf (some (a, i))) O)
    {M M' : Memref sig .tc .vmem S128x2048 .bf16} {h₁ : (chunk M i).view.WordExact} {h₂ : (chunk M' i).view.WordExact} :
    iprop(known X D K ∗ owing c O ∗ due c (a, i) ∗ start c (some (a, i))
        ∗ ((owing c O ∗ xferPay X D c a i ∗ closed c (some (a, i))) -∗ runs c (k ⟨⟩) Q))
      ⊢ runs c (.op (.waitDma2 (semAt (sems a) i) (chunk M i) (chunk M' i) h₁ h₂) k) Q := by
  unfold known
  iintro ⟨⟨#HR, #Hlev⟩, ⟨%W, HO⟩, Hc, Hat, Hk⟩
  iapply (Rounds.wp_wait_rest_token noVariants ER (sched X D) (c : Thread nD τ) none (κ := K (c, some (a, i)))
      (wpE_waitDma2_eq noVariants (c : Thread nD τ) none Set.univ) (Set.mem_univ _) () (O := O) (W := W) (R := 0) (m := 0) (T := ∅)
      (by rw [Nat.zero_add, expect_xfer X D c (a, i)])) $$ [Hc HO Hat]
  · isplitr; · iapply (record_inv X D K c (some (a, i))); iexact HR
    isplitl [Hc]; · iexact Hc
    isplitl [HO]; · iexact HO
    isplitr; · iapply (may_wait c (xsem (a, i)) O _ (by rw [level_cell c (some (a, i))]) hO); iexact Hlev
    iexact Hat
  iintro ⟨HO, Hat, -, Hpay⟩
  ihave Hp := (Entails.of_eq (rest_xfer X D c (a, i))) $$ Hpay
  imod (Rounds.cell_close ER (sched X D) (Set.mem_univ (K (c, some (a, i)))) (fun h => h) (R := 0 + 1) (duties_later X D (cell c (some (a, i))))) $$ [Hat] with Hz
  · isplitr; · iapply (record_inv X D K c (some (a, i))); iexact HR
    iexact Hat
  iapply Hk
  isplitl [HO]; · iexists _; iexact HO
  isplitl [Hp]; · iexact Hp
  iexact Hz

/-- A copy of chunk `i` of `M` to chunk `i` of device `d`'s `M'`. -/
theorem send_xfer (c d : Dev nD) (a a' : Fin 4) (i : Fin 9) (O : CellTallies nD τ sig Unit)
    {M M' : Memref sig .tc .vmem S128x2048 .bf16} (v : (SH i).Idx → Elt F .bf16)
    (hN : (chunk M' i).view.dmaCredit = credit i)
    (hpay : piece c (chunk M i) v ⊢ xferPay X D c a i) (hpay' : piece d (chunk M' i) v ⊢ xferPay X D d a' i)
    {h₁ : (chunk M i).view.WordExact} {h₂ : (chunk M' i).view.WordExact}
    {hsc : (chunk M' i).view.ref.isScScratch = false}
    {hsem : DmaTarget.Typed .vmem (.dma (semAt (sems a') i)) (.remote (Dev.tc d : Thread nD τ) (chunk M' i) (.dma (semAt (sems a) i)) hsc)} :
    iprop(known X D K ∗ piece c (chunk M i) v ∗ anyPiece d (chunk M' i)
        ∗ owing c (O + tallyAt (cell d (some (a', i))) () (credit i))
        ∗ right c (some (a, i)) false ∗ right d (some (a', i)) false
        ∗ ((owing c O ∗ due c (a, i)) -∗ runs c (k ⟨⟩) Q))
      ⊢ runs c (.op (.enqueueDma (chunk M i) (.remote (Dev.tc d) (chunk M' i) (.dma (semAt (sems a) i)) hsc) (.dma (semAt (sems a') i)) h₁ h₂ hsem) k) Q := by
  unfold known anyPiece piece owns
  iintro ⟨⟨#HR, #Hlev⟩, ⟨%f, %hf, Hs⟩, ⟨%Y, %g, %hg, Hd⟩, ⟨%W, HO⟩, Ht, Ht', Hk⟩
  iapply (Rounds.wp_send_pointsTo noVariants ER (sched X D) (c : Thread nD τ) none (κ₁ := K (c, some (a, i))) (κ₂ := K (d, some (a', i)))
      (r₁ := 0) (r₂ := 0) (d₁ := false) (d₂ := false) (fs := f) (fd := g) (q := fullShare)
      (by rw [duties_cell X D c (some (a, i))]; exact Finset.mem_singleton_self _)
      (by rw [duties_cell X D d (some (a', i))]; exact Finset.mem_singleton_self _)
      () () (credit i) (show (chunk M' i).view.amount (.dma (semAt (sems a') i)) = credit i from hN) (amount_cell X D c (some (a, i)) false) (amount_cell X D d (some (a', i)) false) O rfl (W := W)
      (by
        rw [payload_cell X D c (some (a, i))]
        refine BIBase.Entails.trans ?_ hpay
        unfold piece owns
        iintro H
        iexists f
        isplitr
        · ipureintro; exact hf
        · iexact H)
      (by
        rw [payload_cell X D d (some (a', i))]
        refine BIBase.Entails.trans ?_ hpay'
        unfold piece owns
        iintro H
        iexists ((chunk M' i).view.write (Elt F) g ((chunk M i).view.read (Elt F) f) Finset.univ)
        isplitr
        · ipureintro; exact (View.read_write_univ _ _).trans hf
        · iexact H)) $$ [Hs Hd HO Ht Ht']
  · isplitr; · iapply (record_inv X D K c (some (a, i))); iexact HR
    isplitr; · iapply (record_inv X D K d (some (a', i))); iexact HR
    isplitl [Hs]; · iexact Hs
    isplitl [Hd]; · iexact Hd
    isplitl [HO]; · iexact HO
    isplitl [Ht]; · iexact Ht
    isplitr; · iapply (record_reached X D K c (some (a, i))); iexact HR
    isplitl [Ht']; · iexact Ht'
    iapply (record_reached X D K d (some (a', i))); iexact HR
  iintro ⟨Hc, HO⟩
  iapply Hk
  isplitl [HO]; · iexists _; iexact HO
  iexact Hc

end Rules

end Cert.Gradient
end
-- ==== Proof.Chunks.lean ====
module

public import proofs.«01_k».proof.Proof.Steps

@[expose] public section

/-! # One chunk, from products to result

The body's five steps for a chunk, for every chunk at once: the two products, the copy to the partner, the sum and the copy
to the neighbour, the neighbour's total, and the wait for the device's own copies. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → FVec F S512x512 .f32) (D : Dev nD → FVec F S512x2048 .f32)
variable (K : Dev nD × Key → ℕ) (c : Dev nD) (i : Fin 9)

/-- A whole `128`-column array read through its only rectangle. -/
theorem read_columns (v : FVec F S512x128 .bf16) : (fun j => v (rXs.emb j)) = v := by
  funext j
  refine congrArg v (funext fun a => Fin.ext ?_)
  rw [Rect.emb_apply]
  fin_cases a <;> exact (Nat.zero_add _).trans (Nat.one_mul _)

/-- The operands every product reads. -/
abbrev operands : sProp 𝕄 := iprop(piece c xsM (sentX X c) ∗ piece c xmM (mineX X c) ∗ piece c dybM (halfDy D c))

section Products
variable {Q : PUnit.{1} → sProp (MT nD τ sig Unit (Elt F) ℕ UU ℕ)}

theorem run_sendGemm :
    iprop(operands X D c ∗ anyPiece c (chunk sendM i)
        ∗ ((operands X D c ∗ piece c (chunk sendM i) (sentProd X D c i)) -∗ Q ⟨⟩))
      ⊢ runs c (sendGemm i) Q := by
  unfold sendGemm storeChunk
  simp only [Prog.lift, Prog.bind_op, Prog.bind_ret, Prog.pure_eq_ret]
  iintro ⟨⟨Hs, Hm, Hd⟩, ⟨%Y, Hp⟩, Hk⟩
  iapply (load_inside c rXs (sentX X c)) $$ Hs
  iintro Hs
  rw [read_columns]
  iapply (load_inside c (rD i) (halfDy D c)) $$ Hd
  iintro Hd
  iapply (load_piece c (rH i) (fun _ => rfl) Y) $$ Hp
  iintro Hp
  iapply (store_piece c (rH i) (fun _ => rfl)) $$ [Hp]
  · iexists Y; iexact Hp
  iintro Hp
  unfold runs
  rw [wp_ret]
  imodintro
  iapply Hk
  isplitr [Hp]
  · isplitl [Hs]; · iexact Hs
    isplitl [Hm]; · iexact Hm
    iexact Hd
  · iexact Hp

theorem run_mineGemm :
    iprop(operands X D c ∗ anyPiece c (ownM c i)
        ∗ ((operands X D c ∗ piece c (ownM c i) (mineProd X D c i)) -∗ Q ⟨⟩))
      ⊢ runs c (mineGemm c i) Q := by
  unfold mineGemm storeOwn
  simp only [Prog.lift, Prog.bind_op, Prog.bind_ret, Prog.pure_eq_ret]
  iintro ⟨⟨Hs, Hm, Hd⟩, ⟨%Y, Hp⟩, Hk⟩
  iapply (load_inside c rXs (mineX X c)) $$ Hm
  iintro Hm
  rw [read_columns]
  iapply (load_inside c (rD i) (halfDy D c)) $$ Hd
  iintro Hd
  iapply (load_piece c (rOwn c i) (fun _ => rfl) Y) $$ Hp
  iintro Hp
  iapply (store_piece c (rOwn c i) (fun _ => rfl)) $$ [Hp]
  · iexists Y; iexact Hp
  iintro Hp
  unfold runs
  rw [wp_ret]
  imodintro
  iapply Hk
  isplitr [Hp]
  · isplitl [Hs]; · iexact Hs
    isplitl [Hm]; · iexact Hm
    iexact Hd
  · iexact Hp

/-- The copy to the partner. -/
theorem run_startA (O : CellTallies nD τ sig Unit) :
    iprop(known X D K ∗ piece c (chunk sendM i) (sentProd X D c i) ∗ anyPiece (partnerOf c) (chunk landM i)
        ∗ owing c (O + tallyAt (cell (partnerOf c) (some (1, i))) () (credit i))
        ∗ right c (some (0, i)) false ∗ right (partnerOf c) (some (1, i)) false
        ∗ ((owing c O ∗ due c (0, i)) -∗ Q ⟨⟩))
      ⊢ runs c (startA c i) Q := by
  unfold startA startCopy
  simp only [Prog.lift]
  iintro ⟨#HK, Hs, Hd, HO, Ht, Ht', Hk⟩
  iapply (send_xfer X D K c (partnerOf c) 0 1 i O (M := sendM) (M' := landM) (sentProd X D c i) rfl
    (by unfold xferPay anyPiece; dsimp only; iintro H; iexists _; iexact H)
    (by unfold xferPay; dsimp only; rw [partner_partner]))
  isplitr; · iexact HK
  isplitl [Hs]; · iexact Hs
  isplitl [Hd]; · iexact Hd
  isplitl [HO]; · iexact HO
  isplitl [Ht]; · iexact Ht
  isplitl [Ht']; · iexact Ht'
  iintro H
  unfold runs
  rw [wp_ret]
  imodintro
  iapply Hk
  iexact H

/-- The copy to the neighbour. -/
theorem run_startB (O : CellTallies nD τ sig Unit) :
    iprop(known X D K ∗ piece c (chunk sumM i) (passedOn X D c i) ∗ anyPiece (neighbourOf c) (chunk otherM i)
        ∗ owing c (O + tallyAt (cell (neighbourOf c) (some (3, i))) () (credit i))
        ∗ right c (some (2, i)) false ∗ right (neighbourOf c) (some (3, i)) false
        ∗ ((owing c O ∗ due c (2, i)) -∗ Q ⟨⟩))
      ⊢ runs c (startB c i) Q := by
  unfold startB startCopy
  simp only [Prog.lift]
  iintro ⟨#HK, Hs, Hd, HO, Ht, Ht', Hk⟩
  iapply (send_xfer X D K c (neighbourOf c) 2 3 i O (M := sumM) (M' := otherM) (passedOn X D c i) rfl
    (by unfold xferPay anyPiece; dsimp only; iintro H; iexists _; iexact H)
    (by unfold xferPay; dsimp only; rw [neighbour_neighbour]))
  isplitr; · iexact HK
  isplitl [Hs]; · iexact Hs
  isplitl [Hd]; · iexact Hd
  isplitl [HO]; · iexact HO
  isplitl [Ht]; · iexact Ht
  isplitl [Ht']; · iexact Ht'
  iintro H
  unfold runs
  rw [wp_ret]
  imodintro
  iapply Hk
  iexact H

end Products

/-! ## The loops' steps -/

/-- While chunks `l` are still to be sent to the partner. -/
abbrev sending (l : List (Fin 9)) : sProp 𝕄 := iprop(known X D K ∗ operands X D c ∗ owing c (owed c l))

abbrev preA : sProp 𝕄 :=
  iprop(anyPiece c (chunk sendM i) ∗ anyPiece (partnerOf c) (chunk landM i) ∗ right c (some (0, i)) false
    ∗ right (partnerOf c) (some (1, i)) false ∗ anyPiece c (ownM c i))
abbrev postA : sProp 𝕄 := iprop(due c (0, i) ∗ piece c (ownM c i) (mineProd X D c i))

/-- The copy and the second product, after the first. -/
theorem run_restA (l : List (Fin 9)) (Q : PUnit.{1} → sProp 𝕄) :
    iprop(sending X D K c (i :: l) ∗ piece c (chunk sendM i) (sentProd X D c i) ∗ anyPiece (partnerOf c) (chunk landM i)
        ∗ right c (some (0, i)) false ∗ right (partnerOf c) (some (1, i)) false ∗ anyPiece c (ownM c i)
        ∗ ((sending X D K c l ∗ postA X D c i) -∗ Q ⟨⟩))
      ⊢ runs c (startA c i) fun _ => runs c (mineGemm c i) Q := by
  iintro ⟨⟨#HK, Hop, HO⟩, Hs, Hd, Ht, Ht', Hown, Hk⟩
  iapply (run_startA X D K c i (owed c l))
  isplitr; · iexact HK
  isplitl [Hs]; · iexact Hs
  isplitl [Hd]; · iexact Hd
  isplitl [HO]; · rw [← show owed c (i :: l) = owed c l + tallyAt (cell (partnerOf c) (some (1, i))) () (credit i) from (add_assoc _ _ _).symm]; iexact HO
  isplitl [Ht]; · iexact Ht
  isplitl [Ht']; · iexact Ht'
  iintro ⟨HO, Hc⟩
  iapply (run_mineGemm X D c i)
  isplitl [Hop]; · iexact Hop
  isplitl [Hown]; · iexact Hown
  iintro ⟨Hop, Hown⟩
  iapply Hk
  isplitr [Hc Hown]
  · isplitr; · iexact HK
    isplitl [Hop] <;> iassumption
  · isplitl [Hc] <;> iassumption

theorem step_chunkA (l : List (Fin 9)) (Q : PUnit.{1} → sProp 𝕄) :
    iprop(sending X D K c (i :: l) ∗ preA c i ∗ ((sending X D K c l ∗ postA X D c i) -∗ Q ⟨⟩)) ⊢ runs c (chunkA c i) Q := by
  unfold chunkA runs
  rw [wp_bind]
  simp only [wp_bind]
  iintro ⟨⟨#HK, Hop, HO⟩, ⟨Hs, Hd, Ht, Ht', Hown⟩, Hk⟩
  iapply (run_sendGemm X D c i)
  isplitl [Hop]; · iexact Hop
  isplitl [Hs]; · iexact Hs
  iintro ⟨Hop, Hs⟩
  iapply (run_restA X D K c i l Q)
  isplitl [Hop HO]
  · isplitr; · iexact HK
    isplitl [Hop] <;> iassumption
  isplitl [Hs]; · iexact Hs
  isplitl [Hd]; · iexact Hd
  isplitl [Ht]; · iexact Ht
  isplitl [Ht']; · iexact Ht'
  isplitl [Hown]; · iexact Hown
  iexact Hk

/-- While chunks `l` are still to be sent to the neighbour. -/
abbrev passing (l : List (Fin 9)) : sProp 𝕄 := iprop(known X D K ∗ owing c (owe (neighbourOf c) 3 l))

abbrev preB : sProp 𝕄 :=
  iprop(due c (1, i) ∗ start c (some (1, i)) ∗ piece c (ownM c i) (mineProd X D c i) ∗ anyPiece c (chunk sumM i)
    ∗ anyPiece (neighbourOf c) (chunk otherM i) ∗ right c (some (2, i)) false ∗ right (neighbourOf c) (some (3, i)) false)
abbrev postB : sProp 𝕄 :=
  iprop(anyPiece c (chunk landM i) ∗ closed c (some (1, i)) ∗ piece c (ownM c i) (ownPart X D c i) ∗ due c (2, i))

theorem step_addChunk (l : List (Fin 9)) (Q : PUnit.{1} → sProp 𝕄) :
    iprop(passing X D K c (i :: l) ∗ preB X D c i ∗ ((passing X D K c l ∗ postB X D c i) -∗ Q ⟨⟩)) ⊢ runs c (addChunk c i) Q := by
  unfold addChunk waitChunk storeOwn storeChunk
  simp only [Prog.lift, Prog.bind_op, Prog.bind_ret, Prog.pure_eq_ret]
  iintro ⟨⟨#HK, HO⟩, ⟨Hc, Hat, Hown, ⟨%Y, Hsum⟩, Hoth, Ht, Ht'⟩, Hk⟩
  iapply (wait_xfer X D K c 1 i (owe (neighbourOf c) 3 (i :: l)) (above_owe _ _ _ fun _ => show (2 : ℕ) < 3 by decide))
  isplitr; · iexact HK
  isplitl [HO]; · iexact HO
  isplitl [Hc]; · iexact Hc
  isplitl [Hat]; · iexact Hat
  unfold xferPay
  iintro ⟨HO, Hland, Hz⟩
  iapply (load_piece c (rOwn c i) (fun _ => rfl) (mineProd X D c i)) $$ Hown
  iintro Hown
  iapply (load_piece c (rH i) (fun _ => rfl) (sentProd X D (partnerOf c) i)) $$ Hland
  iintro Hland
  iapply (load_piece c (rOwn c i) (fun _ => rfl) (mineProd X D c i)) $$ Hown
  iintro Hown
  iapply (store_piece c (rOwn c i) (fun _ => rfl)) $$ [Hown]
  · iexists _; iexact Hown
  iintro Hown
  iapply (load_piece c (rH i) (fun _ => rfl) Y) $$ Hsum
  iintro Hsum
  iapply (store_piece c (rH i) (fun _ => rfl)) $$ [Hsum]
  · iexists Y; iexact Hsum
  iintro Hsum
  iapply (run_startB X D K c i (owe (neighbourOf c) 3 l))
  isplitr; · iexact HK
  isplitl [Hsum]; · iexact Hsum
  isplitl [Hoth]; · iexact Hoth
  isplitl [HO]; · iexact HO
  isplitl [Ht]; · iexact Ht
  isplitl [Ht']; · iexact Ht'
  iintro ⟨HO, Hc⟩
  iapply Hk
  isplitl [HO]
  · isplitr; · iexact HK
    iexact HO
  isplitl [Hland]; · iexists _; iexact Hland
  isplitl [Hz]; · iexact Hz
  isplitl [Hown]; · iexact Hown
  iexact Hc

/-- When everything has been sent. -/
abbrev settled (l : List (Fin 9)) : sProp 𝕄 := iprop(known X D K ∗ owing c 0)

abbrev preC : sProp 𝕄 := iprop(due c (3, i) ∗ start c (some (3, i)) ∗ anyPiece c (otherRowsM c i))
abbrev postC : sProp 𝕄 := iprop(anyPiece c (chunk otherM i) ∗ closed c (some (3, i)) ∗ piece c (otherRowsM c i) (otherPart X D c i))

theorem above_nothing (n : ℕ) : Above n 0 := fun _ _ h => absurd h (Nat.lt_irrefl 0)

theorem step_takeChunk (l : List (Fin 9)) (Q : PUnit.{1} → sProp 𝕄) :
    iprop(settled X D K c (i :: l) ∗ preC c i ∗ ((settled X D K c l ∗ postC X D c i) -∗ Q ⟨⟩)) ⊢ runs c (takeChunk c i) Q := by
  unfold takeChunk waitChunk storeOther
  simp only [Prog.lift, Prog.bind_op, Prog.bind_ret, Prog.pure_eq_ret]
  iintro ⟨⟨#HK, HO⟩, ⟨Hc, Hat, ⟨%Y, Hout⟩⟩, Hk⟩
  iapply (wait_xfer X D K c 3 i 0 (above_nothing _))
  isplitr; · iexact HK
  isplitl [HO]; · iexact HO
  isplitl [Hc]; · iexact Hc
  isplitl [Hat]; · iexact Hat
  unfold xferPay
  iintro ⟨HO, Hoth, Hz⟩
  iapply (load_piece c (rH i) (fun _ => rfl) (passedOn X D (neighbourOf c) i)) $$ Hoth
  iintro Hoth
  iapply (load_piece c (rOther c i) (fun _ => rfl) Y) $$ Hout
  iintro Hout
  iapply (store_piece c (rOther c i) (fun _ => rfl)) $$ [Hout]
  · iexists Y; iexact Hout
  iintro Hout
  unfold runs
  rw [wp_ret]
  imodintro
  iapply Hk
  isplitl [HO]
  · isplitr; · iexact HK
    iexact HO
  isplitl [Hoth]; · iexists _; iexact Hoth
  isplitl [Hz]; · iexact Hz
  iexact Hout

abbrev preD : sProp 𝕄 := iprop(due c (0, i) ∗ start c (some (0, i)) ∗ due c (2, i) ∗ start c (some (2, i)))
abbrev postD : sProp 𝕄 :=
  iprop(anyPiece c (chunk sendM i) ∗ closed c (some (0, i)) ∗ anyPiece c (chunk sumM i) ∗ closed c (some (2, i)))

theorem step_drainChunk (l : List (Fin 9)) (Q : PUnit.{1} → sProp 𝕄) :
    iprop(settled X D K c (i :: l) ∗ preD c i ∗ ((settled X D K c l ∗ postD c i) -∗ Q ⟨⟩)) ⊢ runs c (drainChunk i) Q := by
  unfold drainChunk waitChunk
  simp only [Prog.lift, Prog.bind_op, Prog.bind_ret, Prog.pure_eq_ret]
  iintro ⟨⟨#HK, HO⟩, ⟨Hc, Hat, Hc', Hat'⟩, Hk⟩
  iapply (wait_xfer X D K c 0 i 0 (above_nothing _))
  isplitr; · iexact HK
  isplitl [HO]; · iexact HO
  isplitl [Hc]; · iexact Hc
  isplitl [Hat]; · iexact Hat
  iintro ⟨HO, Hs, Hz⟩
  iapply (wait_xfer X D K c 2 i 0 (above_nothing _))
  isplitr; · iexact HK
  isplitl [HO]; · iexact HO
  isplitl [Hc']; · iexact Hc'
  isplitl [Hat']; · iexact Hat'
  unfold xferPay
  iintro ⟨HO, Hs', Hz'⟩
  unfold runs
  rw [wp_ret]
  imodintro
  iapply Hk
  isplitl [HO]
  · isplitr; · iexact HK
    iexact HO
  isplitl [Hs]; · iexact Hs
  isplitl [Hz]; · iexact Hz
  isplitl [Hs']; · iexact Hs'
  iexact Hz'

end Cert.Gradient
end
-- ==== Proof.Printed.lean ====
module

public import proofs.«01_k».proof.Proof.Program

@[expose] public section

/-! # The printed body is the loop form's -/

noncomputable section

namespace Cert.Gradient

open Idealize.ShloMosaic Idealize.ShloMosaic.TcCoe
open Idealize.SL.Sem
open Cert.KernelIdeal Cert.KernelIdeal.Gen

variable {F : FTy → Type} [FloatOps F]

/-- A device is at exactly one of the four places. -/
theorem places : ∀ d : Dev nD,
    (atPlace d 0#32 0#32 ∧ ¬ atPlace d 0#32 1#32 ∧ ¬ atPlace d 1#32 0#32 ∧ ¬ atPlace d 1#32 1#32) ∨
    (¬ atPlace d 0#32 0#32 ∧ atPlace d 0#32 1#32 ∧ ¬ atPlace d 1#32 0#32 ∧ ¬ atPlace d 1#32 1#32) ∨
    (¬ atPlace d 0#32 0#32 ∧ ¬ atPlace d 0#32 1#32 ∧ atPlace d 1#32 0#32 ∧ ¬ atPlace d 1#32 1#32) ∨
    (¬ atPlace d 0#32 0#32 ∧ ¬ atPlace d 0#32 1#32 ∧ ¬ atPlace d 1#32 0#32 ∧ atPlace d 1#32 1#32) := by
  decide +kernel

set_option maxRecDepth 65536 in
/-- The printed body is these steps. -/
theorem cc0_body_eq :
    cc0_body (F := F) xM (hstage0_0 0) dyM (hstage0_1 0) outM (hstage0_2 0)
      xsM (Memref.isWhole_whole _) xmM (Memref.isWhole_whole _) dybM (Memref.isWhole_whole _)
        sendM (Memref.isWhole_whole _)
      landM (Memref.isWhole_whole _) sumM (Memref.isWhole_whole _) otherM (Memref.isWhole_whole _)
      cc0_scratch7 cc0_scratch8 cc0_scratch9 cc0_scratch10 = body := by
  rw [cc0_body_eq_skeleton]
  unfold cc0_body_skel
  rw [k0_part1_eq_skeleton, k0_part2_eq_skeleton, k0_part3_eq_skeleton, k0_part4_eq_skeleton,
    k0_part5_eq_skeleton, k0_part6_eq_skeleton, k0_part7_eq_skeleton, k0_part8_eq_skeleton,
    k0_part9_eq_skeleton, k0_part10_eq_skeleton, k0_part11_eq_skeleton, k0_part12_eq_skeleton,
    k0_part13_eq_skeleton, k0_part14_eq_skeleton, k0_part15_eq_skeleton, k0_part16_eq_skeleton,
    k0_part17_eq_skeleton, k0_part18_eq_skeleton, k0_part19_eq_skeleton, k0_part20_eq_skeleton,
    k0_part21_eq_skeleton, k0_part22_eq_skeleton, k0_part23_eq_skeleton, k0_part24_eq_skeleton,
    k0_part25_eq_skeleton, k0_part26_eq_skeleton, k0_part27_eq_skeleton, k0_part28_eq_skeleton]
  unfold k0_part1_skel k0_part2_skel body castX
  refine congrArg (Prog.op _) (funext fun d => ?_)
  refine congrArg (Prog.op _) (funext fun _ => ?_)
  refine congrArg (Prog.op _) (funext fun _ => ?_)
  rcases places d with h | h | h | h
  all_goals
    obtain ⟨h1, h2, h3, h4⟩ := h
    simp only [atPlace, xWord, hWord] at h1 h2 h3 h4 ⊢
    simp only [h1, h2, h3, h4, dite_true, dite_false, ite_true, ite_false]
    unfold k0_part3_skel k0_part4_skel k0_part5_skel k0_part6_skel k0_part7_skel k0_part8_skel
      k0_part9_skel k0_part10_skel k0_part11_skel k0_part12_skel k0_part13_skel k0_part14_skel
      k0_part15_skel k0_part16_skel k0_part17_skel k0_part18_skel k0_part19_skel k0_part20_skel
      k0_part21_skel k0_part22_skel k0_part23_skel k0_part24_skel k0_part25_skel k0_part26_skel
      k0_part27_skel k0_part28_skel sendGemm startA mineGemm castDy castCols
    simp only [h1, h2, h3, h4, dite_true, dite_false, Prog.bind, Prog.lift, Prog.bind_op,
      Prog.bind_ret, Prog.pure_eq_ret, semWaitWord, each, chunkA, addChunk, takeChunk, drainChunk,
      startA, startB, sendGemm, mineGemm]
    repeat refine congrArg₂ Prog.op (by rfl) (funext fun _ => ?_)
    rfl

end Cert.Gradient
end
-- ==== Proof.Body.lean ====
module

public import proofs.«01_k».proof.Proof.Chunks
public import proofs.«01_k».proof.Proof.Printed

@[expose] public section

/-! # The body

A device's whole run: the handshake, the blocks in bf16, and the four loops over the chunks. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

variable (X : Dev nD → FVec F S512x512 .f32) (D : Dev nD → FVec F S512x2048 .f32)
variable (K : Dev nD × Key → ℕ) (c : Dev nD)

/-! ## The blocks in bf16 -/

theorem read_block (v : FVec F S512x2048 .f32) : (fun j => v (rDy.emb j)) = v := by
  funext j
  refine congrArg v (funext fun a => Fin.ext ?_)
  rw [Rect.emb_apply]
  fin_cases a <;> exact (Nat.zero_add _).trans (Nat.one_mul _)

theorem all_columns (v : FVec F S512x128 .bf16) : ∀ i, ∃ j, rXs.emb j = i ∧ v j = v i := fun i =>
  ⟨i, funext fun a => Fin.ext (by rw [Rect.emb_apply]; fin_cases a <;> exact (Nat.zero_add _).trans (Nat.one_mul _)), rfl⟩

theorem all_block (v : FVec F S512x2048 .bf16) : ∀ i, ∃ j, rDy.emb j = i ∧ v j = v i := fun i =>
  ⟨i, funext fun a => Fin.ext (by rw [Rect.emb_apply]; fin_cases a <;> exact (Nat.zero_add _).trans (Nat.one_mul _)), rfl⟩

theorem run_castCols (mo so : ℕ) (hm : ∀ a, (![0, mo] : Fin 2 → ℕ) a + S512x128.size a ≤ S512x512.size a)
    (hs : ∀ a, (![0, so] : Fin 2 → ℕ) a + S512x128.size a ≤ S512x512.size a) (Q : PUnit.{1} → sProp 𝕄) :
    iprop(piece c xM (X c) ∗ anyPiece c xsM ∗ anyPiece c xmM
        ∗ ((piece c xM (X c) ∗ piece c xsM (columns (X c) so hs) ∗ piece c xmM (columns (X c) mo hm)) -∗ Q ⟨⟩))
      ⊢ runs c (castCols mo so hm hs) Q := by
  unfold castCols
  simp only [Prog.lift, Prog.bind_op, Prog.bind_ret, Prog.pure_eq_ret]
  iintro ⟨Hx, ⟨%Y, Hs⟩, ⟨%Z, Hm⟩, Hk⟩
  iapply (load_inside c (rX mo hm) (X c)) $$ Hx
  iintro Hx
  iapply (load_inside c rXs Z) $$ Hm
  iintro Hm
  iapply (store_all c rXs (columns (X c) mo hm) (all_columns _)) $$ [Hm]
  · iexists Z; iexact Hm
  iintro Hm
  iapply (load_inside c (rX so hs) (X c)) $$ Hx
  iintro Hx
  iapply (load_inside c rXs Y) $$ Hs
  iintro Hs
  iapply (store_all c rXs (columns (X c) so hs) (all_columns _)) $$ [Hs]
  · iexists Y; iexact Hs
  iintro Hs
  unfold runs
  rw [wp_ret]
  imodintro
  iapply Hk
  isplitl [Hx]; · iexact Hx
  isplitl [Hs] <;> iassumption

theorem castCols_congr {mo so mo' so' : ℕ} {hm hs hm' hs'} (h : mo = mo') (h' : so = so') :
    castCols (F := F) mo so hm hs = castCols mo' so' hm' hs' := by
  subst h h'; rfl

/-- The columns each place picks. -/
theorem place_columns : ∀ d : Dev nD,
    (atPlace d 0#32 0#32 → 0 = mineCol d ∧ 256 = sentCol d) ∧ (atPlace d 0#32 1#32 → 128 = mineCol d ∧ 384 = sentCol d) ∧
    (atPlace d 1#32 0#32 → 256 = mineCol d ∧ 0 = sentCol d) ∧ (atPlace d 1#32 1#32 → 384 = mineCol d ∧ 128 = sentCol d) := by
  decide +kernel

/-- Whatever the place, it is the device's own columns. -/
theorem castX_eq : castX (F := F) c = castCols (mineCol c) (sentCol c) (inbMine c) (inbSent c) := by
  obtain ⟨p1, p2, p3, p4⟩ := place_columns c
  unfold castX
  rcases places c with h | h | h | h <;> obtain ⟨h1, h2, h3, h4⟩ := h
  · rw [if_pos h1, if_neg h2, if_neg h3, if_neg h4,
      castCols_congr (hm' := inbMine c) (hs' := inbSent c) (p1 h1).1 (p1 h1).2]
    simp only [pure_bind, bind_pure_unit]
  · rw [if_neg h1, if_pos h2, if_neg h3, if_neg h4,
      castCols_congr (hm' := inbMine c) (hs' := inbSent c) (p2 h2).1 (p2 h2).2]
    simp only [pure_bind, bind_pure_unit]
  · rw [if_neg h1, if_neg h2, if_pos h3, if_neg h4,
      castCols_congr (hm' := inbMine c) (hs' := inbSent c) (p3 h3).1 (p3 h3).2]
    simp only [pure_bind, bind_pure_unit]
  · rw [if_neg h1, if_neg h2, if_neg h3, if_pos h4,
      castCols_congr (hm' := inbMine c) (hs' := inbSent c) (p4 h4).1 (p4 h4).2]

theorem run_castX (Q : PUnit.{1} → sProp 𝕄) :
    iprop(piece c xM (X c) ∗ anyPiece c xsM ∗ anyPiece c xmM
        ∗ ((piece c xM (X c) ∗ piece c xsM (sentX X c) ∗ piece c xmM (mineX X c)) -∗ Q ⟨⟩))
      ⊢ runs c (castX c) Q := by
  rw [castX_eq]
  exact run_castCols X c (mineCol c) (sentCol c) (inbMine c) (inbSent c) Q

theorem run_castDy (Q : PUnit.{1} → sProp 𝕄) :
    iprop(piece c dyM (D c) ∗ anyPiece c dybM ∗ ((piece c dyM (D c) ∗ piece c dybM (halfDy D c)) -∗ Q ⟨⟩))
      ⊢ runs c castDy Q := by
  unfold castDy
  simp only [Prog.lift, Prog.bind_op, Prog.bind_ret, Prog.pure_eq_ret]
  iintro ⟨Hx, ⟨%Y, Hs⟩, Hk⟩
  iapply (load_inside c rDy (D c)) $$ Hx
  iintro Hx
  rw [read_block]
  iapply (load_inside c rDy Y) $$ Hs
  iintro Hs
  iapply (store_all c rDy (halfDy D c) (all_block _)) $$ [Hs]
  · iexists Y; iexact Hs
  iintro Hs
  unfold runs
  rw [wp_ret]
  imodintro
  iapply Hk
  isplitl [Hx] <;> iassumption

/-! ## The whole run -/

/-- What a device holds of chunk `i`'s four transfer semaphores: their positions, and the rights to signal with. -/
abbrev chunkStarts (i : Fin 9) : sProp 𝕄 :=
  iprop(start c (some (0, i)) ∗ start c (some (1, i)) ∗ start c (some (2, i)) ∗ start c (some (3, i)))
abbrev chunkRights (i : Fin 9) : sProp 𝕄 :=
  iprop(right c (some (0, i)) false ∗ right (partnerOf c) (some (1, i)) false
    ∗ right c (some (2, i)) false ∗ right (neighbourOf c) (some (3, i)) false)

/-- The device's seven scratch buffers, whatever they hold. -/
abbrev scratch : sProp 𝕄 :=
  iprop(anyPiece c xsM ∗ anyPiece c xmM ∗ anyPiece c dybM ∗ anyPiece c sendM ∗ anyPiece c landM ∗ anyPiece c sumM ∗ anyPiece c otherM)

/-- What it starts from of the exchange. -/
abbrev exchange : sProp 𝕄 :=
  iprop(start c none ∗ right (partnerOf c) none false ∗ right (neighbourOf c) none true
    ∗ (all chunks fun i => chunkStarts c i) ∗ (all chunks fun i => chunkRights c i)
    ∗ cred (tallyAt (cell c none) () 2) ∗ (all chunks fun i => due c (1, i)) ∗ (all chunks fun i => due c (3, i)))

/-- Every transfer semaphore closed, at zero; and the barrier's too. -/
abbrev transfersClosed : sProp 𝕄 :=
  iprop((all chunks fun i => closed c (some (0, i))) ∗ (all chunks fun i => closed c (some (1, i)))
    ∗ (all chunks fun i => closed c (some (2, i))) ∗ all chunks fun i => closed c (some (3, i)))
abbrev allClosed : sProp 𝕄 := iprop(closed c none ∗ transfersClosed c)

/-- The body after its handshake. -/
def exchanges (d : Dev nD) : Step F := do
  startA d 0
  mineGemm d 0
  each (chunkA d) [1, 2, 3, 4, 5, 6, 7, 8]
  each (addChunk d) [0, 1, 2, 3, 4, 5, 6, 7, 8]
  each (takeChunk d) [0, 1, 2, 3, 4, 5, 6, 7, 8]
  each drainChunk [0, 1, 2, 3, 4, 5, 6, 7, 8]

theorem run_exchanges (Q : PUnit.{1} → sProp 𝕄) :
    iprop(known X D K ∗ operands X D c
        ∗ owing c (owed c chunks)
        ∗ piece c (chunk sendM 0) (sentProd X D c 0)
        ∗ (all [1, 2, 3, 4, 5, 6, 7, 8] fun i => anyPiece c (chunk sendM i))
        ∗ (all chunks fun i => anyPiece (partnerOf c) (chunk landM i))
        ∗ (all chunks fun i => anyPiece (neighbourOf c) (chunk otherM i))
        ∗ (all chunks fun i => anyPiece c (chunk sumM i))
        ∗ (all chunks fun i => anyPiece c (ownM c i))
        ∗ (all chunks fun i => anyPiece c (otherRowsM c i))
        ∗ (all chunks fun i => start c (some (0, i)))
        ∗ (all chunks fun i => start c (some (1, i)))
        ∗ (all chunks fun i => start c (some (2, i)))
        ∗ (all chunks fun i => start c (some (3, i)))
        ∗ (all chunks fun i => right c (some (0, i)) false)
        ∗ (all chunks fun i => right (partnerOf c) (some (1, i)) false)
        ∗ (all chunks fun i => right c (some (2, i)) false)
        ∗ (all chunks fun i => right (neighbourOf c) (some (3, i)) false)
        ∗ (all chunks fun i => due c (1, i))
        ∗ (all chunks fun i => due c (3, i))
        ∗ ((transfersClosed c ∗ scratch c ∗ owing c 0 ∗ piece c outM (outAt X D c)) -∗ Q ⟨⟩))
      ⊢ runs c (exchanges c) Q := by
  unfold exchanges runs
  simp only [wp_bind]
  iintro ⟨#HK, Hop, HO, Hsend0, Hsend, HpL, HpO, Hsum, Hown, Hrest, HsA, HsL, HsC, HsO, HrA, HrL, HrC, HrO, HcL, HcO, Hk⟩
  ihave HpL := (Entails.of_eq (all_first _)) $$ HpL
  icases HpL with ⟨HpL0, HpL⟩
  ihave HrA := (Entails.of_eq (all_first _)) $$ HrA
  icases HrA with ⟨HrA0, HrA⟩
  ihave HrL := (Entails.of_eq (all_first _)) $$ HrL
  icases HrL with ⟨HrL0, HrL⟩
  ihave Hown := (Entails.of_eq (all_first _)) $$ Hown
  icases Hown with ⟨Hown0, Hown⟩
  -- the products and the copies to the partner
  iapply (run_restA X D K c 0 [1, 2, 3, 4, 5, 6, 7, 8])
  isplitl [Hop HO]
  · isplitr; · iexact HK
    isplitl [Hop]; · iexact Hop
    iexact HO
  isplitl [Hsend0]; · iexact Hsend0
  isplitl [HpL0]; · iexact HpL0
  isplitl [HrA0]; · iexact HrA0
  isplitl [HrL0]; · iexact HrL0
  isplitl [Hown0]; · iexact Hown0
  iintro ⟨HS, HA0⟩
  iapply (run_each c (chunkA c) (sending X D K c) (preA c) (postA X D c) (step_chunkA X D K c) [1, 2, 3, 4, 5, 6, 7, 8])
  isplitl [HS]; · iexact HS
  isplitl [Hsend HpL HrA HrL Hown]
  · simp only [preA, all_sep]
    isplitl [Hsend]; · iexact Hsend
    isplitl [HpL]; · iexact HpL
    isplitl [HrA]; · iexact HrA
    isplitl [HrL]; · iexact HrL
    iexact Hown
  iintro ⟨⟨-, ⟨Hxs, Hxm, Hdyb⟩, HO⟩, HA⟩
  ihave HA := (Entails.of_eq (all_first (postA X D c)).symm) $$ [HA0 HA]
  · isplitl [HA0] <;> iassumption
  ihave HA := (Entails.of_eq (all_sep chunks (fun i => due c (0, i)) fun i => piece c (ownM c i) (mineProd X D c i))) $$ HA
  icases HA with ⟨HcA, Hown⟩
  -- the sums and the copies to the neighbour
  iapply (run_each c (addChunk c) (passing X D K c) (preB X D c) (postB X D c) (step_addChunk X D K c) chunks)
  isplitl [HO]
  · isplitr; · iexact HK
    rw [show owe (neighbourOf c) 3 chunks = owed c [] from (add_zero _).symm]
    iexact HO
  isplitl [HcL HsL Hown Hsum HpO HrC HrO]
  · simp only [preB, all_sep]
    isplitl [HcL]; · iexact HcL
    isplitl [HsL]; · iexact HsL
    isplitl [Hown]; · iexact Hown
    isplitl [Hsum]; · iexact Hsum
    isplitl [HpO]; · iexact HpO
    isplitl [HrC]; · iexact HrC
    iexact HrO
  simp only [postB, all_sep]
  iintro ⟨⟨-, HO⟩, Hland, HzL, Hown, HcC⟩
  -- the neighbour's totals
  iapply (run_each c (takeChunk c) (settled X D K c) (preC c) (postC X D c) (step_takeChunk X D K c) chunks)
  isplitl [HO]
  · isplitr; · iexact HK
    iexact HO
  isplitl [HcO HsO Hrest]
  · simp only [preC, all_sep]
    isplitl [HcO]; · iexact HcO
    isplitl [HsO]; · iexact HsO
    iexact Hrest
  simp only [postC, all_sep]
  iintro ⟨⟨-, HO⟩, Hoth, HzO, Hrest⟩
  -- the device's own copies have left
  iapply (run_each c drainChunk (settled X D K c) (preD c) (postD c) (step_drainChunk X D K c) chunks)
  isplitl [HO]
  · isplitr; · iexact HK
    iexact HO
  isplitl [HcA HsA HcC HsC]
  · simp only [preD, all_sep]
    isplitl [HcA]; · iexact HcA
    isplitl [HsA]; · iexact HsA
    isplitl [HcC]; · iexact HcC
    iexact HsC
  simp only [postD, all_sep]
  iintro ⟨⟨-, HO⟩, Hsend, HzA, Hsum, HzC⟩
  iapply Hk
  isplitl [HzA HzL HzC HzO]
  · isplitl [HzA]; · iexact HzA
    isplitl [HzL]; · iexact HzL
    isplitl [HzC] <;> iassumption
  isplitl [Hxs Hxm Hdyb Hsend Hland Hsum Hoth]
  · isplitl [Hxs]; · iexists _; iexact Hxs
    isplitl [Hxm]; · iexists _; iexact Hxm
    isplitl [Hdyb]; · iexists _; iexact Hdyb
    isplitl [Hsend]; · iapply (join_half c sendM); iexact Hsend
    isplitl [Hland]; · iapply (join_half c landM); iexact Hland
    isplitl [Hsum]; · iapply (join_half c sumM); iexact Hsum
    iapply (join_half c otherM); iexact Hoth
  isplitl [HO]; · iexact HO
  iapply (join_out X D c)
  isplitl [Hown] <;> iassumption

set_option maxRecDepth 8000 in
theorem run_body (Q : PUnit.{1} → sProp 𝕄) :
    iprop(known X D K ∗ exchange c ∗ scratch c ∗ owing c (owed₀ c) ∗ piece c xM (X c) ∗ piece c dyM (D c) ∗ anyPiece c outM
        ∗ ((allClosed c ∗ scratch c ∗ owing c 0 ∗ piece c xM (X c) ∗ piece c dyM (D c) ∗ piece c outM (outAt X D c)) -∗ Q ⟨⟩))
      ⊢ runs c body Q := by
  unfold body semSignalWord semWaitWord
  simp only [Prog.lift, Prog.bind_op, Prog.bind_ret, Prog.pure_eq_ret]
  simp only [exchange, chunkStarts, chunkRights, all_sep]
  unfold runs
  rw [wp_deviceId]
  iintro ⟨#HK, ⟨HsB, HrP, HrN, ⟨HsA, HsL, HsC, HsO⟩, ⟨HrA, HrL, HrC, HrO⟩, HcB, HcL, HcO⟩,
    ⟨Hxs, Hxm, Hdyb, Hsend, Hland, Hsum, Hoth⟩, ⟨%W, HO⟩, Hx, Hdy, Hout, Hk⟩
  ihave Hsend := (split_half c sendM) $$ Hsend
  ihave Hland := (split_half c landM) $$ Hland
  ihave Hsum := (split_half c sumM) $$ Hsum
  ihave Hoth := (split_half c otherM) $$ Hoth
  ihave Hout' := (split_out c) $$ Hout
  icases Hout' with ⟨Hown, Hrest⟩
  ihave ⟨#HR, #Hlev⟩ := (show known X D K ⊢ iprop(records X D K ∗ levAts labels level) from .rfl) $$ HK
  -- the signal to the partner: its right to the landing buffer
  iapply (Rounds.wp_signal noVariants ER (sched X D) (c : Thread nD τ) none (dst := (partnerOf c : Thread nD τ)) (κ := K (partnerOf c, none))
      (d := false) (by rw [duties_cell X D (partnerOf c) none]; exact Finset.mem_univ _) ((amount_cell X D (partnerOf c) none false).trans (by decide)) () (owed₁ c) rfl)
    $$ [HO HrP Hland]
  · isplitr; · iapply (record_inv X D K (partnerOf c) none); iexact HR
    isplitl [HO]; · iexact HO
    isplitl [HrP]; · iexact HrP
    isplitl [Hland]
    · rw [payload_cell X D (partnerOf c) none]; unfold payOf barPay; dsimp only; rw [partner_partner]; iexact Hland
    · iapply (record_reached X D K (partnerOf c) none); iexact HR
  iintro HO
  -- the signal to the neighbour: its right to the other landing buffer
  iapply (Rounds.wp_signal noVariants ER (sched X D) (c : Thread nD τ) none (dst := (neighbourOf c : Thread nD τ)) (κ := K (neighbourOf c, none))
      (d := true) (by rw [duties_cell X D (neighbourOf c) none]; exact Finset.mem_univ _) ((amount_cell X D (neighbourOf c) none true).trans (by decide)) () (owed c chunks) rfl)
    $$ [HO HrN Hoth]
  · isplitr; · iapply (record_inv X D K (neighbourOf c) none); iexact HR
    isplitl [HO]; · iexact HO
    isplitl [HrN]; · iexact HrN
    isplitl [Hoth]
    · rw [payload_cell X D (neighbourOf c) none]; unfold payOf barPay; dsimp only; rw [neighbour_neighbour]; iexact Hoth
    · iapply (record_reached X D K (neighbourOf c) none); iexact HR
  iintro HO
  simp only [wp_bind]
  iapply (run_castX X c)
  isplitl [Hx]; · iexact Hx
  isplitl [Hxs]; · iexact Hxs
  isplitl [Hxm]; · iexact Hxm
  iintro ⟨Hx, Hxs, Hxm⟩
  iapply (run_castDy D c)
  isplitl [Hdy]; · iexact Hdy
  isplitl [Hdyb]; · iexact Hdyb
  iintro ⟨Hdy, Hdyb⟩
  ihave Hsend := (Entails.of_eq (all_first _)) $$ Hsend
  icases Hsend with ⟨Hsend0, Hsend⟩
  iapply (run_sendGemm X D c 0)
  isplitl [Hxs Hxm Hdyb]
  · isplitl [Hxs]; · iexact Hxs
    isplitl [Hxm] <;> iassumption
  isplitl [Hsend0]; · iexact Hsend0
  iintro ⟨Hop, Hsend0⟩
  -- the wait at the barrier
  iapply (Rounds.wp_wait_rest_token noVariants ER (sched X D) (c : Thread nD τ) none (κ := K (c, none))
      (wpE_semWait_eq noVariants (c : Thread nD τ) none Set.univ) (Set.mem_univ _) () (O := owed c chunks) (R := 0) (m := 0) (T := ∅)
      (by rw [expect_bar]; decide)) $$ [HcB HO HsB]
  · isplitr; · iapply (record_inv X D K c none); iexact HR
    isplitl [HcB]; · iexact HcB
    isplitl [HO]; · iexact HO
    isplitr; · iapply (may_wait c (.reg barS) (owed c chunks) 1 (by rw [level_cell c none]) (above_owed c chunks (by decide))); iexact Hlev
    iexact HsB
  iintro ⟨HO, HsB, -, Hpay⟩
  ihave Hp := (Entails.of_eq (rest_bar X D c)) $$ Hpay
  unfold barPay
  icases Hp with ⟨HpL, HpO⟩
  imod (Rounds.cell_close ER (sched X D) (Set.mem_univ (K (c, none))) (fun h => h) (R := 0 + 1) (duties_later X D (cell c none))) $$ [HsB] with HzB
  · isplitr; · iapply (record_inv X D K c none); iexact HR
    iexact HsB
  iapply (run_exchanges X D K c Q)
  isplitr; · iexact HK
  isplitl [Hop]; · iexact Hop
  isplitl [HO]; · iexists _; iexact HO
  isplitl [Hsend0]; · iexact Hsend0
  isplitl [Hsend]; · iexact Hsend
  isplitl [HpL]; · iexact HpL
  isplitl [HpO]; · iexact HpO
  isplitl [Hsum]; · iexact Hsum
  isplitl [Hown]; · iexact Hown
  isplitl [Hrest]; · iexact Hrest
  isplitl [HsA]; · iexact HsA
  isplitl [HsL]; · iexact HsL
  isplitl [HsC]; · iexact HsC
  isplitl [HsO]; · iexact HsO
  isplitl [HrA]; · iexact HrA
  isplitl [HrL]; · iexact HrL
  isplitl [HrC]; · iexact HrC
  isplitl [HrO]; · iexact HrO
  isplitl [HcL]; · iexact HcL
  isplitl [HcO]; · iexact HcO
  iintro ⟨Hz, Hscr, HO, Hout⟩
  iapply Hk
  isplitl [HzB Hz]
  · isplitl [HzB] <;> iassumption
  isplitl [Hscr]; · iexact Hscr
  isplitl [HO]; · iexact HO
  isplitl [Hx]; · iexact Hx
  isplitl [Hdy] <;> iassumption

end Cert.Gradient
end
-- ==== Proof.Ghost.lean ====
module

public import proofs.«01_k».proof.Proof.Body

@[expose] public section

/-! # What the launch hands every device

The semaphores at zero, the rights to signal them and the credits for the signals, for all devices at once; and the same
regrouped by who uses them: a right goes to the device that signals with it. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ UU ℕ

/-! ## A device's semaphores, listed -/

/-- Something of each of the four transfer semaphores of every chunk. -/
abbrev four (Φ : Key → sProp 𝕄) : sProp 𝕄 :=
  iprop((all chunks fun i => Φ (some (0, i))) ∗ (all chunks fun i => Φ (some (1, i)))
    ∗ (all chunks fun i => Φ (some (2, i))) ∗ all chunks fun i => Φ (some (3, i)))

omit [FloatOps F] in
theorem transfers_eq (Φ : Key → sProp 𝕄) : bigSep Finset.univ (fun p : Fin 4 × Fin 9 => Φ (some p)) = four Φ := by
  rw [bigSep_univ_prod, bigSep_univ_eq_bigSepL [0, 1, 2, 3] (by decide) (by decide)]
  simp only [bigSepL_cons_cons, bigSepL_singleton, all_chunks]
  rfl

omit [FloatOps F] in
theorem keys_eq (Φ : Key → sProp 𝕄) : bigSep Finset.univ Φ = iprop(Φ none ∗ four Φ) := by
  rw [bigSep_univ_equiv (Equiv.optionEquivSumPUnit (Fin 4 × Fin 9)).symm Φ, bigSep_univ_sum, ← transfers_eq]
  have h : bigSep Finset.univ (fun b : PUnit.{1} => Φ ((Equiv.optionEquivSumPUnit (Fin 4 × Fin 9)).symm (.inr b))) = Φ none := by
    rw [Finset.univ_unique, bigSep_singleton]; rfl
  rw [h]
  show iprop((bigSep Finset.univ fun p : Fin 4 × Fin 9 => Φ (some p)) ∗ Φ none) = _
  have swap (A B : sProp 𝕄) : iprop(A ∗ B) ⊢ iprop(B ∗ A) := sep_comm.1
  exact BI.equiv_iff.mp ⟨swap _ _, swap _ _⟩

/-! ## The cells and the rights, minted -/

theorem cells_injective : Function.Injective fun p : Dev nD × Key => cell p.1 p.2 := by
  rintro ⟨c, k⟩ ⟨c', k'⟩ h
  have h1 : c = c' := congrArg (fun g : GSem nD τ sig => g.1.1) h
  have h2 : k = k' := ksem_injective (congrArg Prod.snd h)
  exact Prod.ext h1 h2

theorem rights_injective : Function.Injective fun p : (Dev nD × Key) × Bool => (cell p.1.1 p.1.2, 0, p.2) := by
  rintro ⟨p, b⟩ ⟨p', b'⟩ h
  exact Prod.ext (cells_injective (congrArg Prod.fst h)) (congrArg (fun x : GSem nD τ sig × ℕ × Bool => x.2.2) h)

def allCells : Finset (GSem nD τ sig) := Finset.univ.map ⟨_, cells_injective⟩
def allRights : Finset (GSem nD τ sig × ℕ × Bool) := Finset.univ.map ⟨_, rights_injective⟩

def launchState : UU :=
  (initOf (Pipeline.cells cfgs cellOf_inj) (Pipeline.launchToks cfgs cellOf_inj), initOf allCells allRights)

variable (X : Dev nD → FVec F S512x512 .f32) (D : Dev nD → FVec F S512x2048 .f32)

/-- The rights to signal device `c`'s own semaphores. -/
abbrev ownRights (c : Dev nD) : sProp 𝕄 :=
  bigSep Finset.univ fun k : Key => iprop(right c k true ∗ right c k false)

/-- What the launch deals device `c`. -/
def dealt (c : Dev nD) : sProp 𝕄 :=
  iprop((bigSep Finset.univ fun k : Key => roundState ER (sched X D) (cell c k) 0)
    ∗ ((bigSep Finset.univ fun k : Key => start c k) ∗ bigSep Finset.univ fun k : Key => reached ER (cell c k) 0) ∗ ownRights c)

theorem fund_all : BI.own (ER (initOf allCells allRights)) ⊢ (|==> bigSep Finset.univ (dealt X D) : sProp 𝕄) := by
  have hX (Φ : GSem nD τ sig → sProp 𝕄) : bigSep allCells Φ = bigSep Finset.univ fun c : Dev nD => bigSep Finset.univ fun k : Key => Φ (cell c k) := by
    unfold allCells; rw [bigSep_map, bigSep_univ_prod]; rfl
  have hT : bigSep allRights (fun x => (dutyTok ER x.1 x.2.1 x.2.2 : sProp 𝕄)) = bigSep Finset.univ fun c : Dev nD => ownRights c := by
    unfold allRights; rw [bigSep_map, bigSep_univ_prod, bigSep_univ_prod]
    refine bigSep_congr fun c _ => bigSep_congr fun k _ => ?_
    rw [bigSep_univ_eq_bigSepL [true, false] (by decide) (by decide), bigSepL_cons_cons, bigSepL_singleton]
    rfl
  iintro HX
  imod (Rounds.fund ER (sched X D) allCells allRights) $$ HX with ⟨Hst, Hr, Hat, Htok⟩
  imodintro
  ihave Hst' := (Entails.of_eq (hX fun g => roundState ER (sched X D) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; rw [bigSep_sep', bigSep_sep', bigSep_sep']
  isplitl [Hst']; · iexact Hst'
  isplitl [Hat' Hr']
  · isplitl [Hat'] <;> iassumption
  iexact Htok'

/-! ## The semaphores at launch -/

/-- The kernel's own semaphores. -/
abbrev ownSem : Fin 4 × Fin 9 → SemLoc sig := xsem

theorem ownSemFacts : Pipeline.OwnSemFacts cfg0.spec ownSem := by decide +kernel

omit [FloatOps F] in
theorem unscoped_eq (c : Dev nD) : (unscopedSems0 c : sProp 𝕄) = semVal (cell c none) 0 := by
  unfold unscopedSems0; rw [bigSep_eq_bigSepL_of_eq [SemLoc.reg barS] (by decide) (by decide)]; rfl

omit [FloatOps F] in
theorem own_eq (c : Dev nD) : (Pipeline.ownSems0 (Ix := Unit) (Name := ℕ) (U := UU) (Lvl := ℕ) (Val := Elt F) (τ := τ) ownSem c : sProp 𝕄)
    = four fun k => closed c k := by
  unfold Pipeline.ownSems0
  exact transfers_eq fun k => closed c k

omit [FloatOps F] in
theorem sems_eq (c : Dev nD) :
    iprop(Pipeline.ownSems0 (Ix := Unit) (Name := ℕ) (U := UU) (Lvl := ℕ) (Val := Elt F) (τ := τ) ownSem c ∗ unscopedSems0 c)
      ⊢ (bigSep Finset.univ fun k : Key => closed c k : sProp 𝕄) := by
  rw [own_eq, unscoped_eq, keys_eq]
  iintro ⟨H, HB⟩
  isplitl [HB] <;> iassumption

/-- Each semaphore's schedule set up. -/
theorem set_up (c : Dev nD) :
    iprop(Pipeline.ownSems0 (Ix := Unit) (Name := ℕ) (U := UU) (Lvl := ℕ) (Val := Elt F) (τ := τ) ownSem c ∗ unscopedSems0 c ∗ dealt X D c)
      ⊢ |={Set.univ}=> iprop((bigSep Finset.univ fun k : Key => iprop(∃ κ : ℕ, cellInv ER (sched X D) κ (cell c k)))
          ∗ ((bigSep Finset.univ fun k : Key => start c k) ∗ bigSep Finset.univ fun k : Key => reached ER (cell c k) 0) ∗ ownRights c) := by
  unfold dealt
  iintro ⟨Hos, Hus, Hst, Hat, Htok⟩
  ihave Hv := (sems_eq (F := F) c) $$ [Hos Hus]
  · isplitl [Hos] <;> iassumption
  imod (show iprop((bigSep Finset.univ fun k : Key => closed c k) ∗ bigSep Finset.univ fun k : Key => roundState ER (sched X D) (cell c k) 0)
      ⊢ (|={Set.univ}=> bigSep Finset.univ fun k : Key => iprop(∃ κ : ℕ, cellInv ER (sched X D) κ (cell c k)) : sProp 𝕄) from by
        rw [← bigSep_sep']
        exact (bigSep_mono fun k _ => (Rounds.body_intro ER (sched X D) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-! ## Regrouped by who signals -/

/-- The rights of device `c`'s own signals. -/
abbrev signalRights (c : Dev nD) : sProp 𝕄 :=
  iprop(right (partnerOf c) none false ∗ right (neighbourOf c) none true
    ∗ (all chunks fun i => right c (some (0, i)) false) ∗ (all chunks fun i => right (partnerOf c) (some (1, i)) false)
    ∗ (all chunks fun i => right c (some (2, i)) false) ∗ all chunks fun i => right (neighbourOf c) (some (3, i)) false)

abbrev partners : Dev nD ≃ Dev nD := ⟨partnerOf, partnerOf, partner_partner, partner_partner⟩
abbrev neighbours : Dev nD ≃ Dev nD := ⟨neighbourOf, neighbourOf, neighbour_neighbour, neighbour_neighbour⟩

omit [FloatOps F] in
theorem rights_around : (bigSep Finset.univ fun c : Dev nD => (ownRights c : sProp 𝕄)) ⊢ bigSep Finset.univ fun c : Dev nD => signalRights c := by
  have h (c : Dev nD) : (ownRights c : sProp 𝕄) ⊢ iprop((right c none false ∗ right c none true)
      ∗ four fun k => right c k false) := by
    unfold ownRights
    rw [bigSep_sep', keys_eq (fun k => right c k true), keys_eq (fun k => right c k false)]
    iintro ⟨⟨H1, -⟩, H2, H3⟩
    isplitl [H1 H2]
    · isplitl [H2] <;> iassumption
    · iexact H3
  refine (bigSep_mono fun c _ => h c).trans ?_
  simp only [four, signalRights, bigSep_sep']
  rw [bigSep_univ_equiv partners (fun c : Dev nD => (right c none false : sProp 𝕄)),
    bigSep_univ_equiv neighbours (fun c : Dev nD => (right c none true : sProp 𝕄)),
    bigSep_univ_equiv partners (fun c : Dev nD => (all chunks fun i => right c (some (1, i)) false : sProp 𝕄)),
    bigSep_univ_equiv neighbours (fun c : Dev nD => (all chunks fun i => right c (some (3, i)) false : sProp 𝕄))]
  have assoc (A B C : sProp 𝕄) : iprop((A ∗ B) ∗ C) ⊢ iprop(A ∗ B ∗ C) := sep_assoc.1
  exact assoc _ _ _

/-- What every device then has: the schedules, its positions, its rights. -/
def ready (c : Dev nD) : sProp 𝕄 :=
  iprop((∃ K, records X D K) ∗ (bigSep Finset.univ fun k : Key => start c k) ∗ signalRights c)

omit [FloatOps F] in
/-- What every device knows is known once. -/
theorem with_known {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : Key => iprop(∃ κ : ℕ, cellInv ER (sched X D) κ (cell c k)))
          ∗ ((bigSep Finset.univ fun k : Key => start c k) ∗ bigSep Finset.univ fun k : Key => reached ER (cell c k) 0) ∗ ownRights c) : sProp 𝕄)
      ⊢ bigSep Finset.univ (ready X D) := by
  simp only [bigSep_sep' Finset.univ]
  rw [← bigSep_univ_prod (fun p : Dev nD × Key => iprop(∃ κ : ℕ, cellInv ER (sched X D) κ (cell p.1 p.2))),
    ← bigSep_univ_prod (fun p : Dev nD × Key => (reached ER (cell p.1 p.2) 0 : sProp 𝕄))]
  iintro ⟨HI, ⟨Hat, #HR⟩, Htok⟩
  ihave HK := (BI.bigSep_exists_pi Finset.univ (fun (p : Dev nD × Key) (κ : ℕ) => (cellInv ER (sched X D) κ (cell p.1 p.2) : sProp 𝕄))) $$ HI
  icases HK with ⟨%K, #HI⟩
  ihave Htok := (Entails.of_eq (show iprop((bigSep Finset.univ fun c : Dev nD => bigSep Finset.univ fun k : Key => right c k true)
      ∗ bigSep Finset.univ fun c : Dev nD => bigSep Finset.univ fun k : Key => right c k false)
      = (bigSep Finset.univ fun c : Dev nD => (ownRights c : sProp 𝕄)) from by simp only [ownRights, bigSep_sep'])) $$ Htok
  ihave Htk := (rights_around (F := F)) $$ Htok
  iapply (with_known (R := records X D K) (Φ := fun c : Dev nD => iprop((bigSep Finset.univ fun k : Key => start c k) ∗ signalRights c)) fun c _ => by
    unfold ready
    iintro ⟨#HR, H⟩
    isplitr
    · iexists K; iexact HR
    · iexact H)
  isplitr
  · unfold records; isplitl; · iexact HI
    iexact HR
  · iapply (Entails.of_eq (bigSep_sep' Finset.univ (fun c : Dev nD => bigSep Finset.univ fun k : Key => start c k) fun c => signalRights c).symm)
    isplitl [Hat] <;> iassumption

/-- All devices' semaphores set up, at once. -/
theorem set_up_all : (bigSep Finset.univ fun c => iprop(Pipeline.ownSems0 (Ix := Unit) (Name := ℕ) (U := UU) (Lvl := ℕ) (Val := Elt F) (τ := τ) ownSem c
      ∗ unscopedSems0 c ∗ dealt X D c) : sProp 𝕄) ⊢ |={Set.univ}=> bigSep Finset.univ (ready X D) :=
  ((bigSep_mono fun c _ => set_up X D c).trans (bigSep_fupd _ _)).trans (BI.fupd_mono (regroup X D))

/-! ## The credits -/

omit [FloatOps F] in
theorem credits_owe (f : Dev nD → Dev nD) (h : ∀ c, f (f c) = c) (a : Fin 4) (l : List (Fin 9)) (c : Dev nD) :
    (Pipeline.launchCred (fun d => owe (f d) a l) c : sProp 𝕄) ⊢ all l fun i => due c (a, i) := by
  induction l with
  | nil => unfold owe all; rw [Pipeline.launchCred_zero]
  | cons i l ih =>
    unfold owe all
    rw [Pipeline.launchCred_add]
    iintro ⟨H1, H2⟩
    isplitl [H2]
    · iapply (Pipeline.launchCred_tallyAt (xsem (a, i)) f f h h () (credit i) c); iexact H2
    · iapply ih; iexact H1

omit [FloatOps F] in
theorem credits (c : Dev nD) :
    (Pipeline.launchCred owed₀ c : sProp 𝕄)
      ⊢ iprop(cred (tallyAt (cell c none) () 2) ∗ (all chunks fun i => due c (1, i)) ∗ all chunks fun i => due c (3, i)) := by
  rw [show (owed₀ : Dev nD → CellTallies nD τ sig Unit) = fun d => ((owe (neighbourOf d) 3 chunks + owe (partnerOf d) 1 chunks)
      + tallyAt (cell (neighbourOf d) none) () 1) + tallyAt (cell (partnerOf d) none) () 1 from rfl,
    Pipeline.launchCred_add, Pipeline.launchCred_add, Pipeline.launchCred_add]
  iintro ⟨⟨⟨H3, H1⟩, HN⟩, HP⟩
  ihave HN := (Pipeline.launchCred_tallyAt (SemLoc.reg barS) neighbourOf neighbourOf neighbour_neighbour neighbour_neighbour () 1 c) $$ HN
  ihave HP := (Pipeline.launchCred_tallyAt (SemLoc.reg barS) partnerOf partnerOf partner_partner partner_partner () 1 c) $$ HP
  isplitl [HN HP]
  · rw [show (tallyAt (cell c none) () 2 : CellTallies nD τ sig Unit) = tallyAt (cell c none) () 1 + tallyAt (cell c none) () 1 from
      (tallyAt_add (cell c none) () 1 1).symm]
    iapply (cred_add _ _).2
    isplitl [HN] <;> iassumption
  isplitl [H1]
  · iapply (credits_owe partnerOf partner_partner 1 chunks c); iexact H1
  · iapply (credits_owe neighbourOf neighbour_neighbour 3 chunks c); iexact H3

/-- What a device starts the exchange with. -/
theorem exchange_intro (c : Dev nD) :
    iprop((bigSep Finset.univ fun k : Key => start c k) ∗ signalRights c ∗ Pipeline.launchCred owed₀ c) ⊢ (exchange c : sProp 𝕄) := by
  rw [keys_eq (fun k => start c k)]
  simp only [exchange, chunkStarts, chunkRights, all_sep]
  iintro ⟨⟨Hb, Hs⟩, ⟨HP, HN, Hr⟩, Hc⟩
  ihave Hc := (credits (F := F) c) $$ Hc
  icases Hc with ⟨H2, H1, H3⟩
  isplitl [Hb]; · iexact Hb
  isplitl [HP]; · iexact HP
  isplitl [HN]; · iexact HN
  isplitl [Hs]; · iexact Hs
  isplitl [Hr]; · iexact Hr
  isplitl [H2]; · iexact H2
  isplitl [H1] <;> iassumption

end Cert.Gradient
end
-- ==== Proof.Run.lean ====
module

public import proofs.«01_k».proof.Proof.Ghost
public import Idealize.ShloMosaic.Lib.Pipeline.CollectiveSegs

@[expose] public section

/-! # The run

Every device runs the body on its blocks: from any memory with zero semaphores the kernel ends, its arguments unchanged,
its result at `outAt` of all the devices' blocks, and every semaphore at zero. -/

noncomputable section

namespace Cert.Gradient

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- The memory at launch. -/
def launched : MemSt nD τ sig (Elt F) := ⟨m, fun _ => 0, ρ⟩

/-- The blocks a device's body reads. -/
def xBlock (c : Dev nD) : FVec F S512x512 .f32 :=
  (win0_0.blk (0 : Fin 1)).view.read (Elt F) (m ((c : Thread nD τ).loc main_arg0))
def dyBlock (c : Dev nD) : FVec F S512x2048 .f32 :=
  (win0_1.blk (0 : Fin 1)).view.read (Elt F) (m ((c : Thread nD τ).loc main_arg1))

/-- Before the body, and after it. -/
def before (c : Dev nD) : sProp 𝕄 :=
  iprop((∃ K, records (xBlock m) (dyBlock m) K) ∗ levAts labels level ∗ exchange c ∗ scratch c)
def after (c : Dev nD) : sProp 𝕄 := iprop(allClosed c ∗ scratch c)

def dats (_ : Fin 1) (c : Dev nD) : Dat τ (Elt F) Unit ℕ UU ℕ cfg0 c where
  A w := (launched m ρ).mem ((cfg0.win w).arr.view.loc (c : Thread nD τ))
  after w _ := match w with
    | ⟨0, _⟩ => xBlock m c
    | ⟨1, _⟩ => dyBlock m c
    | ⟨2, _⟩ => outAt (xBlock m) (dyBlock m) c
  Φ t := match t with
    | ⟨0, _⟩ => before m c
    | ⟨_ + 1, _⟩ => after c
  q _ := fullShare
  owed t := match t with
    | ⟨0, _⟩ => owed₀ c
    | ⟨_ + 1, _⟩ => 0

/-! ## The body, as the pipeline calls it -/

abbrev point : Fin cfg0.N := t0_0
theorem the_point (t : Fin cfg0.N) : t = point := fin_N0 t

theorem fetched_x (c : Dev nD) (d) : (dats m ρ 0 c).before (0 : Fin 3) point d = xBlock m c := by
  unfold Dat.before; rw [if_pos (fetch0_0 point)]; rfl
theorem fetched_dy (c : Dev nD) (d) : (dats m ρ 0 c).before (1 : Fin 3) point d = dyBlock m c := by
  unfold Dat.before; rw [if_pos (fetch0_1 point)]; rfl

abbrev bodyPre (c : Dev nD) : sProp 𝕄 :=
  iprop(before m c ∗ (dats m ρ 0 c).owesAt () point.castSucc
    ∗ (∃ d, piece c xM ((dats m ρ 0 c).before (0 : Fin 3) point d))
    ∗ (∃ d, piece c dyM ((dats m ρ 0 c).before (1 : Fin 3) point d))
    ∗ (∃ d, piece c outM ((dats m ρ 0 c).before (2 : Fin 3) point d)))

abbrev bodyPost (c : Dev nD) : sProp 𝕄 :=
  iprop(after c ∗ (dats m ρ 0 c).owesAt () point.succ ∗ piece c xM (xBlock m c) ∗ piece c dyM (dyBlock m c)
    ∗ piece c outM (outAt (xBlock m) (dyBlock m) c))

theorem sound_body (c : Dev nD) : bodyPre m ρ c ⊢ runs c body (fun _ => bodyPost m ρ c) := by
  simp only [bodyPre, fetched_x, fetched_dy]
  unfold before Dat.owesAt Pipeline.owesWithin
  rw [show (dats m ρ 0 c).owed point.castSucc = owed₀ c from rfl]
  iintro ⟨⟨⟨%K, HK⟩, Hlev, Hex, Hscr⟩, ⟨%W, %hW, HO⟩, ⟨%d0, Hx⟩, ⟨%d1, Hdy⟩, ⟨%d2, Hout⟩⟩
  iapply (run_body (xBlock m) (dyBlock m) K c)
  isplitl [HK Hlev]
  · unfold known; isplitl [HK] <;> iassumption
  isplitl [Hex]; · iexact Hex
  isplitl [Hscr]; · iexact Hscr
  isplitl [HO]; · iexists W; iexact HO
  isplitl [Hx]; · iexact Hx
  isplitl [Hdy]; · iexact Hdy
  isplitl [Hout]; · iexists _; iexact Hout
  iintro ⟨Hz, Hscr, ⟨%W', HO⟩, Hx, Hdy, Hout⟩
  isplitl [Hz Hscr]
  · unfold after; isplitl [Hz] <;> iassumption
  isplitl [HO]
  · unfold Dat.owesAt Pipeline.owesWithin
    rw [show (dats m ρ 0 c).owed point.succ = 0 from rfl]
    iexists W'
    isplitr; · ipureintro; exact fun _ _ => Or.inl trivial
    iexact HO
  isplitl [Hx]; · iexact Hx
  isplitl [Hdy] <;> iassumption

theorem body_obligation (c : Dev nD) : BodyObligation (dats (F := F) m ρ 0 c) (defs₀ (F := F)) noVariants () Set.univ := fun t => by
  rw [the_point t]
  rw [bigSep_W0, bigSep_W0]
  show bodyPre m ρ c ⊢ wp frame (wpE (defs₀ (F := F)) noVariants c none) Set.univ
    (cc0_body (F := F) xM (hstage0_0 0) dyM (hstage0_1 0) outM (hstage0_2 0)
      xsM (Memref.isWhole_whole _) xmM (Memref.isWhole_whole _) dybM (Memref.isWhole_whole _)
        sendM (Memref.isWhole_whole _)
      landM (Memref.isWhole_whole _) sumM (Memref.isWhole_whole _) otherM (Memref.isWhole_whole _)
      cc0_scratch7 cc0_scratch8 cc0_scratch9 cc0_scratch10) (fun _ => bodyPost m ρ c)
  rw [cc0_body_eq]
  exact sound_body m ρ c

/-! ## The launch's side conditions -/

theorem share_eq (c : Dev nD) (w : Fin cfg0.W) : (dats m ρ 0 c).share w = fullShare := by unfold Dat.share; split <;> rfl

/-- What a device's run starts from. -/
abbrev startOf (c : Dev nD) : sProp 𝕄 :=
  iprop((∃ K, records (xBlock m) (dyBlock m) K) ∗ levAts labels level ∗ exchange c)

theorem start_intro (c : Dev nD) :
    iprop(Pipeline.unscopedRestP Pipeline.Prefetch.none cfg0.spec c (fun b => m ((c : Thread nD τ).loc b)) ∗ levAts labels level
        ∗ Pipeline.launchCred owed₀ c ∗ prngReg c (ρ c) ∗ ready (xBlock m) (dyBlock m) c)
      ⊢ |={Set.univ}=> iprop(startOf m c ∗ emp) := by
  unfold ready
  iintro ⟨-, Hlev, Hcr, -, HK, Hs, Hr⟩
  ihave He := (exchange_intro (F := F) c) $$ [Hs Hr Hcr]
  · isplitl [Hs]; · iexact Hs
    isplitl [Hr] <;> iassumption
  imodintro
  isplitl
  · isplitl [HK]; · iexact HK
    isplitl [Hlev] <;> iassumption
  · iempintro

theorem scratch_eq (c : Dev nD) : (Pipeline.scopedRest cfg0.spec c : sProp 𝕄) = scratch c := by
  rw [scopedRest0_eq]
  unfold scratch
  simp only [anyPiece, piece, owns_whole]
  rfl

theorem before_intro (c : Dev nD) :
    iprop(startOf m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl, scratch_eq]
  unfold before
  iintro ⟨⟨HK, Hl, He⟩, -, Hs⟩
  isplitl [HK]; · iexact HK
  isplitl [Hl]; · iexact Hl
  isplitl [He] <;> iassumption

theorem after_exit (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after c from rfl, scratch_eq, own_eq, unscoped_eq]
  unfold after
  iintro ⟨⟨Hb, Hz⟩, Hs⟩
  isplitl [Hb]; · iexact Hb
  isplitl [Hz] <;> iassumption

/-- The staging semaphores are none of the exchange's. -/
theorem stage_key : ∀ (w : Fin 3) (s : Fin (spec0 w).nbuf) (k : Key), ksem k ≠ .dma ((spec0 w).sem s) := by decide +kernel

theorem waits (c : Dev nD) : (levAts labels level : sProp 𝕄) ⊢ Pipeline.cellsWaits cfgs (dats m ρ) () 0 c :=
  Pipeline.cellsWaits_intro cfgs (dats m ρ) () 0 c fun w s t =>
    may_wait c _ _ 0 (by unfold level; rw [keyOf_none (stage_key w s)]; exact Nat.le_refl 0) (by
      rcases t with ⟨_ | _, ht⟩
      · exact above_owed₀ c
      · exact above_nothing 0)

/-! ## The run -/

/-- Device `c`'s array of window `w` at the end. -/
def atEnd (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = atEnd m ρ c w

set_option maxRecDepth 8000 in
/-- From any memory with zero semaphores, for any float values: the kernel ends, on every device its arrays at `atEnd`, and
    every semaphore at zero. -/
theorem run_main : θ_run defs (onTc (τ := τ) (main (F := F))) (launched m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ noVariants m ρ main
    (hmain := fun _ => rfl)
    (hbody := body_obligation m ρ) (hne := block_pos0) (harr := arr_whole0) (hstage := stage_whole0) (hshare := share_eq m ρ)
    (hdistinct := winFacts0.arr_inj)
    (O₀ := owed₀) (howed₀ := fun _ => rfl) (howedN := fun _ => rfl)
    (L := labels) (lv := level) (hL := fun g h => if_neg h) (hwaits := waits m ρ)
    (G := dealt (xBlock m) (dyBlock m)) (G' := ready (xBlock m) (dyBlock m)) (u₀ := launchState)
    (hu₀ := by
      unfold launchState
      iintro Hu
      ihave H := (ownU_pair _ _) $$ Hu
      icases H with ⟨HP, HX⟩
      imod (fund_all (xBlock m) (dyBlock m)) $$ HX with HG
      imodintro
      isplitl [HP] <;> iassumption)
    (hglob := set_up_all (xBlock m) (dyBlock m))
    (hA := fun _ _ => rfl) (hpf := fun _ k => k.elim0)
    (X := startOf m) (Y := fun c => unscopedSems0 c) (Z := fun _ => iprop(emp))
    (hX := start_intro m ρ) (hin := before_intro m ρ) (hout := after_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem atEnd_x (c : Dev nD) : atEnd m ρ c (0 : Fin 3) = m ((c : Thread nD τ).loc main_arg0) :=
  (dats (F := F) m ρ 0 c).arrAt_in (0 : Fin 3) rfl _
theorem atEnd_dy (c : Dev nD) : atEnd m ρ c (1 : Fin 3) = m ((c : Thread nD τ).loc main_arg1) :=
  (dats (F := F) m ρ 0 c).arrAt_in (1 : Fin 3) rfl _

/-! Each window's one block is its whole array. -/

theorem xBlock_eq (c : Dev nD) : xBlock m c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
theorem dyBlock_eq (c : Dev nD) : dyBlock m c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
theorem read_out (f : main_v1.ty.Contents (Elt F)) : (win0_2.blk (0 : Fin 1)).view.read (Elt F) f = f :=
  Memref.read_access_unit_zero (Elt F) main_v1 (off := fun a => (win0_2.index (0 : Fin 1)) a * main_v1.ty.shape.size a)
    (funext fun a => by fin_cases a <;> decide) (fun a => by fin_cases a <;> decide) _

/-- The result array at the end is what the body left. -/
theorem atEnd_out (c : Dev nD) : atEnd m ρ c (2 : Fin 3) = outAt (xBlock m) (dyBlock m) c := by
  have h : (win0_2.blk (0 : Fin 1)).view.read (Elt F) (atEnd m ρ c (2 : Fin 3)) = outAt (xBlock m) (dyBlock m) c := by
    unfold atEnd
    rw [show cfg0.N = ((0 : Fin 1) : Fin cfg0.N).val + 1 from rfl, (dats m ρ 0 c).arrAt_succ (2 : Fin 3) (0 : Fin 1),
      show (cfg0.win (2 : Fin 3)).flush (0 : Fin 1) = true from flush0_2 _, if_pos rfl]
    exact View.read_write_univ _ _
  exact (read_out _).symm.trans h

/-- The run, in the arrays' own names. -/
theorem run_arrays : θ_run defs (onTc (τ := τ) (main (F := F))) (launched m ρ) (fun r =>
    (∀ c : Dev nD, r.2.mem ((c : Thread nD τ).loc main_v1) = outAt (xBlock m) (dyBlock m) c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c 2).trans (atEnd_out m ρ c), (h.1 c 0).trans (atEnd_x m ρ c),
    (h.1 c 1).trans (atEnd_dy m ρ c)⟩, h.2⟩) (run_main m ρ)

end Cert.Gradient
end
-- ==== Proof.Frames.lean ====
module

public import proofs.«01_k».proof.Proof.Run
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run

@[expose] public section

/-! # The frames

Each program ends, leaves its arguments as they were, and every semaphore at zero. The kernel on bit patterns and the
kernel on exact numbers are the same text, so one run serves both. -/

noncomputable section

namespace Cert.Gradient

open Idealize.ShloMosaic Idealize.ShloMosaic.TcCoe Idealize.SL.Sem

/-- The kernel ends, its arguments unchanged and its semaphores at zero, for any float values. -/
theorem frame_any {F : FTy → Type} [FloatOps F] (m : (ℓ : Loc KernelIdeal.nD KernelIdeal.τ KernelIdeal.sig) → Buf (Elt F) ℓ)
    (ρ : Dev KernelIdeal.nD → PrngReg) :
    θ_run (KernelIdeal.defs (F := F)) (onTc (τ := KernelIdeal.τ) (KernelIdeal.main (F := F))) ⟨m, fun _ => 0, ρ⟩ (fun r =>
      (∀ c : Dev KernelIdeal.nD,
        r.2.mem ((c : Thread KernelIdeal.nD KernelIdeal.τ).loc KernelIdeal.main_arg0) = m ((c : Thread KernelIdeal.nD KernelIdeal.τ).loc KernelIdeal.main_arg0)
        ∧ r.2.mem ((c : Thread KernelIdeal.nD KernelIdeal.τ).loc KernelIdeal.main_arg1) = m ((c : Thread KernelIdeal.nD KernelIdeal.τ).loc KernelIdeal.main_arg1))
      ∧ r.2.sem = fun _ => 0) :=
  (θ_run KernelIdeal.defs _ _).mono (fun _ h => ⟨fun c => (h.1 c).2, h.2⟩) (run_arrays m ρ)

theorem frame_ideal : Cert.quiescent_KernelIdeal := fun m ρ _ => frame_any (F := Ideal) m ρ

/-! The two texts of the kernel are one: the body, then the table of bodies, then the table with the pipeline in it. -/

theorem body_same : @Cert.Kernel.cc0_body Bits _ _ = @Cert.KernelIdeal.cc0_body Bits _ _ := rfl

theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

theorem defs_same : Cert.Kernel.defs (F := Bits) = Cert.KernelIdeal.defs (F := Bits) := by
  unfold Cert.Kernel.defs Cert.KernelIdeal.defs
  rw [bodies_same]
  rfl

theorem frame_kernel : Cert.quiescent_Kernel := fun m ρ _ => by
  have h := frame_any (F := Bits) m ρ
  rw [← defs_same] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Gradient
end
-- ==== Proof.Sums.lean ====
module

public import proofs.«01_k».proof.Proof.Geometry
public import Idealize.ShloMosaic.Lib.Pointwise
public import Idealize.ShloMosaic.Lib.ValueIdx

@[expose] public section

/-! # What one chunk computes, over the reals

Casts between formats change nothing, a product is a sum over the 512 rows of the blocks, and a chunk's entry reads the
blocks at its row and column. -/

noncomputable section

namespace Cert.Gradient

open Idealize.ShloMosaic Idealize.ShloMosaic.TcCoe
open Idealize.ShloMosaic.ValueIdx (addf_apply truncf_apply extf_apply constant_apply)
open Cert.KernelIdeal Cert.KernelIdeal.Gen

/-! ## One step -/

theorem toHalf_ideal {s : Shape} (hc : s.ShapeCasts s) (v : FVec Ideal s .f32) (j : s.Idx) : toHalf (F := Ideal) hc v j = v j := by
  unfold toHalf
  rw [shapeCast_self, truncf_apply, shapeCast_self]

theorem prod_ideal (i : Fin 9) (v : FVec Ideal S512x128 .bf16) (w : FVec Ideal (SD i) .bf16) (a : Fin 128) (b : Fin (width i)) :
    prod (F := Ideal) i v w (ix2 a b) = ∑ k : Fin 512, (v (ix2 k a) : EReal) * w (ix2 k b) := by
  unfold prod matmul
  rw [Ideal.matmul_def]
  rw [Ideal.matmul_apply₁_of (a := (0 : Fin 2)) (K := 512) _ rfl rfl v w _ (ix2 a b) (fun k => ix2 k a) (fun k => ix2 k b)
    (fun k => funext fun d => by fin_cases d <;> rfl) (fun k => funext fun d => by fin_cases d <;> rfl)]
  rw [constant_apply, Ideal.ofBits_zero_f32, zero_add]

theorem prodHalf_ideal (i : Fin 9) (v : FVec Ideal S512x128 .bf16) (w : FVec Ideal (SD i) .bf16) (j : (SH i).Idx) :
    prodHalf (F := Ideal) i v w j = prod (F := Ideal) i v w j := by
  unfold prodHalf
  rw [shapeCast_self, truncf_apply]

theorem total_ideal (i : Fin 9) (v : FVec Ideal (SH i) .f32) (w : FVec Ideal (SH i) .bf16) (j : (SH i).Idx) :
    total (F := Ideal) i v w j = (v j + w j : EReal) := by
  unfold total
  rw [shapeCast_self, addf_apply, extf_apply]

theorem totalHalf_ideal (i : Fin 9) (v : FVec Ideal (SH i) .f32) (j : (SH i).Idx) : totalHalf (F := Ideal) i v j = v j := by
  unfold totalHalf
  rw [shapeCast_self, truncf_apply]

/-! ## Chunks of the blocks -/

variable (X : Dev nD → FVec Ideal S512x512 .f32) (D : Dev nD → FVec Ideal S512x2048 .f32)

/-- Column `a` of the 128 columns of `x` from `b` on, and column `b` of chunk `i`. -/
theorem colX {b : ℕ} (hb : ∀ a, (![0, b] : Fin 2 → ℕ) a + S512x128.size a ≤ S512x512.size a) (a : Fin 128) : b + a.val < 512 := by
  have h : b + 128 ≤ 512 := hb 1
  omega
theorem colD (i : Fin 9) (b : Fin (width i)) : first i + b.val < 2048 := by
  have h : first i + width i ≤ 2048 := inbD i 1
  omega
abbrev at_ (i : Fin 9) (b : Fin (width i)) : Fin 2048 := ⟨first i + b.val, colD i b⟩

theorem columns_ideal (v : FVec Ideal S512x512 .f32) (b : ℕ) (hb) (k : Fin 512) (a : Fin 128) :
    columns (F := Ideal) v b hb (ix2 k a) = v (ix2 k ⟨b + a.val, colX hb a⟩) := by
  unfold columns
  rw [toHalf_ideal]
  refine congrArg v (funext fun d => ?_)
  fin_cases d
  · exact Fin.ext (show 0 + 1 * k.val = k.val by omega)
  · exact Fin.ext (show b + 1 * a.val = b + a.val by omega)

theorem chunkDy_ideal (c : Dev nD) (i : Fin 9) (k : Fin 512) (b : Fin (width i)) :
    chunkDy (F := Ideal) D c i (ix2 k b) = D c (ix2 k (at_ i b)) := by
  unfold chunkDy halfDy
  rw [toHalf_ideal]
  refine congrArg (D c) (funext fun d => ?_)
  fin_cases d
  · exact Fin.ext (show 0 + 1 * k.val = k.val by omega)
  · exact Fin.ext (show first i + 1 * b.val = first i + b.val by omega)

/-- The product of one device's blocks at column `p` of `x` and column `q` of `dy`. -/
def blockSum (c : Dev nD) (p : Fin 512) (q : Fin 2048) : EReal := ∑ k : Fin 512, (X c (ix2 k p) : EReal) * D c (ix2 k q)

theorem mineProd_ideal (c : Dev nD) (i : Fin 9) (a : Fin 128) (b : Fin (width i)) :
    mineProd (F := Ideal) X D c i (ix2 a b) = blockSum X D c ⟨mineCol c + a.val, colX (inbMine c) a⟩ (at_ i b) := by
  unfold mineProd mineX blockSum
  rw [prod_ideal]
  simp only [columns_ideal, chunkDy_ideal]

theorem sentProd_ideal (c : Dev nD) (i : Fin 9) (a : Fin 128) (b : Fin (width i)) :
    sentProd (F := Ideal) X D c i (ix2 a b) = blockSum X D c ⟨sentCol c + a.val, colX (inbSent c) a⟩ (at_ i b) := by
  unfold sentProd sentX blockSum
  rw [prodHalf_ideal, prod_ideal]
  simp only [columns_ideal, chunkDy_ideal]

/-- A partner sends what its device's rows lack. -/
theorem sentCol_partner : ∀ c : Dev nD, sentCol (partnerOf c) = mineCol c := by decide +kernel

/-- A device's own rows hold its product and its partner's. -/
theorem ownPart_ideal (c : Dev nD) (i : Fin 9) (a : Fin 128) (b : Fin (width i)) :
    ownPart (F := Ideal) X D c i (ix2 a b)
      = blockSum X D c ⟨mineCol c + a.val, colX (inbMine c) a⟩ (at_ i b)
        + blockSum X D (partnerOf c) ⟨mineCol c + a.val, colX (inbMine c) a⟩ (at_ i b) := by
  unfold ownPart
  rw [total_ideal, mineProd_ideal, sentProd_ideal]
  simp only [sentCol_partner]

/-- The other rows hold the neighbour's. -/
theorem otherPart_ideal (c : Dev nD) (i : Fin 9) (j : (SH i).Idx) :
    otherPart (F := Ideal) X D c i j = ownPart (F := Ideal) X D (neighbourOf c) i j := by
  unfold otherPart widen passedOn
  rw [extf_apply, totalHalf_ideal]

end Cert.Gradient
end
-- ==== Proof.Reference.lean ====
module

public import proofs.«01_k».proof.Proof.Gen.ReferenceIdeal.Run
public import Idealize.ShloMosaic.Lib.Pointwise
public import Idealize.ShloMosaic.Lib.ValueIdx

@[expose] public section

/-! # What the reference computes

Entry `(p, q)` of `xᵀ · dy`: the sum over the 1024 rows of column `p` of `x` times column `q` of `dy`. -/

noncomputable section

namespace Cert.Gradient

open Idealize.ShloMosaic Idealize.ShloMosaic.TcCoe Idealize.SL.Sem
open Cert.ReferenceIdeal Cert.ReferenceIdeal.Gen

variable (x : FVec Ideal S1024x512 .f32) (dy : FVec Ideal S1024x2048 .f32)

/-- The gradient. -/
def gradient : FVec Ideal S512x2048 .f32 := fun j => ∑ k : Fin 1024, (x (ix2 k (j 0)) : EReal) * dy (ix2 k (j 1))

theorem gradient_eq :
    Host.dotGeneral (F := Ideal) dot_S512x1024_S1024x2048_S512x2048_1_0_0_1_n_n none
      (transpose S512x1024 [1, 0] x transposes_S1024x512_S512x1024_1_0) dy = gradient x dy := by
  funext j
  obtain ⟨p, q, rfl⟩ : ∃ (p : Fin 512) (q : Fin 2048), j = ix2 p q := ⟨_, _, eq_ix2 j⟩
  unfold gradient
  pointwise

/-- The reference's run. -/
theorem run_reference (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v1) = gradient (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (gradient_eq _ _), (h c).2⟩) (Cert.ReferenceIdeal.Value.run (F := Ideal) m ρ)

end Cert.Gradient
end
-- ==== Proof.Equation.lean ====
module

public import proofs.«01_k».proof.Proof.Sums
public import proofs.«01_k».proof.Proof.Reference
public import proofs.«01_k».proof.Proof.Run
public import proofs.«01_k».proof.Defs
public import Idealize.ShloMosaic.Lib.LayoutAt

@[expose] public section

/-! # The kernel computes the gradient

The rows of `x` and `dy` lie in two halves, one for each value of the first mesh coordinate. A device adds the sum over its
half to the sum over its partner's, so each of its result rows is a row of the gradient; the other rows are its
neighbour's. -/

noncomputable section

namespace Cert.Gradient

open Idealize.ShloMosaic Idealize.ShloMosaic.TcCoe Idealize.SL.Sem
open Cert.KernelIdeal Cert.KernelIdeal.Gen

variable (x : FVec Ideal Cert.ReferenceIdeal.S1024x512 .f32) (dy : FVec Ideal Cert.ReferenceIdeal.S1024x2048 .f32)

/-! ## The blocks -/

/-- A device's block of `x`, of `dy`, and of an array shaped as the result. -/
def xOf (c : Dev nD) : FVec Ideal S512x512 .f32 :=
  Layout.blockN ⟨2, ![512, 512]⟩ ⟨2, ![1024, 512]⟩ (Layout.meshBlock [2, 4, 4] ![[0], []] c) x
def dyOf (c : Dev nD) : FVec Ideal S512x2048 .f32 :=
  Layout.blockN ⟨2, ![512, 2048]⟩ ⟨2, ![1024, 2048]⟩ (Layout.meshBlock [2, 4, 4] ![[0], []] c) dy
def outOf (g : FVec Ideal Cert.ReferenceIdeal.S512x2048 .f32) (c : Dev nD) : FVec Ideal S256x2048 .f32 :=
  Layout.blockN ⟨2, ![256, 2048]⟩ ⟨2, ![512, 2048]⟩ (Layout.meshBlock [2, 4, 4] ![[0], []] c) g

/-- The device's place along the first mesh axis. -/
theorem group_lt (c : Dev nD) : c.val / 16 < 2 := by
  have h : c.val < 32 := c.isLt
  omega
theorem place : ∀ c : Dev nD, Layout.meshLin [2, 4, 4] c.val [0] = c.val / 16 := by decide +kernel

/-- Row `k` of half `u` of the 1024. -/
abbrev rowOf (u : ℕ) (hu : u < 2) (k : Fin 512) : Fin 1024 := ⟨512 * u + k.val, by have := k.isLt; omega⟩

theorem xOf_apply (c : Dev nD) (k p : Fin 512) : xOf x c (ix2 k p) = x (ix2 (rowOf (c.val / 16) (group_lt c) k) p) := by
  refine congrArg x (funext fun d => ?_)
  fin_cases d
  · refine Fin.ext (show Layout.meshLin [2, 4, 4] c.val [0] * 512 + k.val = 512 * (c.val / 16) + k.val from ?_)
    rw [place, Nat.mul_comm]
  · exact Fin.ext (show 0 * 512 + p.val = p.val by omega)

theorem dyOf_apply (c : Dev nD) (k : Fin 512) (q : Fin 2048) :
    dyOf dy c (ix2 k q) = dy (ix2 (rowOf (c.val / 16) (group_lt c) k) q) := by
  refine congrArg dy (funext fun d => ?_)
  fin_cases d
  · refine Fin.ext (show Layout.meshLin [2, 4, 4] c.val [0] * 512 + k.val = 512 * (c.val / 16) + k.val from ?_)
    rw [place, Nat.mul_comm]
  · exact Fin.ext (show 0 * 2048 + q.val = q.val by omega)

theorem outOf_apply (g : FVec Ideal Cert.ReferenceIdeal.S512x2048 .f32) (c : Dev nD) (y : S256x2048.Idx) (p : Fin 512) (q : Fin 2048)
    (hp : p.val = 256 * (c.val / 16) + (y 0).val) (hq : q.val = (y 1).val) : outOf g c y = g (ix2 p q) := by
  refine congrArg g (funext fun d => ?_)
  fin_cases d
  · refine Fin.ext (show Layout.meshLin [2, 4, 4] c.val [0] * 256 + (y 0).val = p.val from ?_)
    rw [place, hp, Nat.mul_comm]
  · exact Fin.ext (show 0 * 2048 + (y 1).val = q.val by omega)

/-! ## The two halves of the sum -/

/-- The sum over half `u` of the rows. -/
def halfSum (u : ℕ) (hu : u < 2) (p : Fin 512) (q : Fin 2048) : EReal :=
  ∑ k : Fin 512, (x (ix2 (rowOf u hu k) p) : EReal) * dy (ix2 (rowOf u hu k) q)

theorem blockSum_eq (c : Dev nD) (p : Fin 512) (q : Fin 2048) :
    blockSum (xOf x) (dyOf dy) c p q = halfSum x dy (c.val / 16) (group_lt c) p q := by
  unfold blockSum halfSum
  simp only [xOf_apply, dyOf_apply]

theorem gradient_halves (p : Fin 512) (q : Fin 2048) :
    gradient x dy (ix2 p q) = halfSum x dy 0 (by decide) p q + halfSum x dy 1 (by decide) p q := by
  refine (Fin.sum_univ_add (a := 512) (b := 512) fun k : Fin 1024 => (x (ix2 k p) : EReal) * dy (ix2 k q)).trans ?_
  refine congrArg₂ (· + ·) (Finset.sum_congr rfl fun k _ => ?_) (Finset.sum_congr rfl fun k _ => ?_)
  · rw [show Fin.castAdd 512 k = rowOf 0 (by decide) k from Fin.ext (show k.val = 512 * 0 + k.val by omega)]
  · rw [show Fin.natAdd 512 k = rowOf 1 (by decide) k from Fin.ext (show 512 + k.val = 512 * 1 + k.val by omega)]

theorem partner_group : ∀ c : Dev nD, (partnerOf c).val / 16 = 1 - c.val / 16 := by decide +kernel

/-- A device's half and its partner's are the two halves. -/
theorem both_halves (c : Dev nD) (p : Fin 512) (q : Fin 2048) :
    blockSum (xOf x) (dyOf dy) c p q + blockSum (xOf x) (dyOf dy) (partnerOf c) p q = gradient x dy (ix2 p q) := by
  rw [blockSum_eq, blockSum_eq, gradient_halves]
  have h := group_lt c
  have hp := partner_group c
  obtain h0 | h1 : c.val / 16 = 0 ∨ c.val / 16 = 1 := by omega
  · simp only [hp, h0]
  · simp only [hp, h1]
    exact add_comm _ _

theorem ownPart_gradient (c : Dev nD) (i : Fin 9) (a : Fin 128) (b : Fin (width i)) :
    ownPart (F := Ideal) (xOf x) (dyOf dy) c i (ix2 a b)
      = gradient x dy (ix2 ⟨mineCol c + a.val, colX (inbMine c) a⟩ (at_ i b)) := by
  rw [ownPart_ideal, both_halves]

/-! ## The result -/

/-- The neighbour's columns are the device's other rows. -/
theorem mineCol_neighbour : ∀ c : Dev nD, mineCol (neighbourOf c) = 256 * (c.val / 16) + (128 - 128 * (c.val % 2)) := by
  decide +kernel

/-- What a device holds at the end is its block of the gradient. -/
theorem outAt_gradient (c : Dev nD) : outAt (F := Ideal) (xOf x) (dyOf dy) c = outOf (gradient x dy) c := by
  funext y
  obtain ⟨t, ht⟩ := out_cover c y
  obtain ⟨j, rfl⟩ := LoadRect.exists_idx_of_mem _ ht
  obtain ⟨o, i⟩ := t
  cases o
  · obtain ⟨a, b, rfl⟩ : ∃ (a : Fin 128) (b : Fin (width i)), j = ix2 a b := ⟨_, _, eq_ix2 j⟩
    refine (outAt_other (xOf x) (dyOf dy) c i (ix2 a b)).trans ?_
    rw [otherPart_ideal, ownPart_gradient]
    refine (outOf_apply _ c _ _ _ ?_ ?_).symm
    · show mineCol (neighbourOf c) + a.val = 256 * (c.val / 16) + (k0_off10 c 0 + 1 * a.val)
      rw [mineCol_neighbour, row_other]
      omega
    · show first i + b.val = first i + 1 * b.val
      omega
  · obtain ⟨a, b, rfl⟩ : ∃ (a : Fin 128) (b : Fin (width i)), j = ix2 a b := ⟨_, _, eq_ix2 j⟩
    refine (outAt_own (xOf x) (dyOf dy) c i (ix2 a b)).trans ?_
    rw [ownPart_gradient]
    refine (outOf_apply _ c _ _ _ ?_ ?_).symm
    · show 256 * (c.val / 16) + 128 * (c.val % 2) + a.val = 256 * (c.val / 16) + (k0_off1 c 0 + 1 * a.val)
      rw [row_own]
      omega
    · show first i + b.val = first i + 1 * b.val
      omega

/-- Over the reals the kernel and the reference agree. -/
theorem algebraic : Cert.algebraic_KernelIdeal_ReferenceIdeal := fun m ρ m' ρ' _ agree => by
  refine ⟨gradient _ _, (θ_run (defs (F := Ideal)) _ _).mono (fun r h c => ⟨(h.1 c).1.trans ?_, (h.1 c).2⟩) (run_arrays m ρ),
    (θ_run (Cert.ReferenceIdeal.defs (F := Ideal)) _ _).mono (fun r h => h 0) (run_reference m' ρ')⟩
  have hx : xBlock m = xOf _ := funext fun d => (xBlock_eq m d).trans (agree d).1
  have hd : dyBlock m = dyOf _ := funext fun d => (dyBlock_eq m d).trans (agree d).2
  rw [hx, hd]
  exact outAt_gradient _ _ c

end Cert.Gradient
end
-- ==== Proof.lean ====
/- # The certificate

`Cert.Claim` (Defs.lean), assembled: the three frames, `preserves`, and the equation. -/
module

public import proofs.«01_k».proof.Proof.Frames
public import proofs.«01_k».proof.Proof.Equation

@[expose] public section

noncomputable section

namespace Cert.Proof

open Idealize.ShloMosaic Idealize.SL.Sem

/-- The whole claim. -/
theorem claim : Cert.Claim := ⟨Cert.Kernel.Gen.facts, Cert.KernelIdeal.Gen.facts, Cert.ReferenceIdeal.Gen.facts,
  Cert.Gradient.frame_kernel, Cert.Gradient.frame_ideal, Cert.Gradient.frame_reference, trivial, Cert.Gradient.algebraic⟩

end Cert.Proof

end
